-- ==== Defs.lean ====
def Pre_Kernel [hPre_pairs : Cert.Pre_pairs.Facts] (m : (ℓ : Loc Cert.Kernel.nD Cert.Kernel.τ Cert.Kernel.sig) → Buf (Elt Bits) ℓ) : Prop :=
  ∀ c : Dev Cert.Kernel.nD,
    (Cert.Pre_pairs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Reference (m : (ℓ : Loc Cert.Reference.nD Cert.Reference.τ Cert.Reference.sig) → Buf (Elt Bits) ℓ) : Prop :=
  True

def Pre_Reference_pairs [hPre_pairs : Cert.Pre_pairs.Facts] (m : (ℓ : Loc Cert.Reference.nD Cert.Reference.τ Cert.Reference.sig) → Buf (Elt Bits) ℓ) : Prop :=
  ∀ c : Dev Cert.Reference.nD,
    (Cert.Pre_pairs.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_pairs : Cert.Pre_pairs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_pairs [hReference : Cert.Reference.Facts] [hPre_pairs : Cert.Pre_pairs.Facts] : Prop :=
  ∀ (m : (ℓ : Loc Cert.Reference.nD Cert.Reference.τ Cert.Reference.sig) → Buf (Elt Bits) ℓ) (g : Dev Cert.Reference.nD → PrngReg), Pre_Reference_pairs m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def bitexact_Kernel_Reference [hKernel : Cert.Kernel.Facts] [hReference : Cert.Reference.Facts] [hPre_pairs : Cert.Pre_pairs.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v36)) (v1 : (c : Dev Cert.Kernel.nD) → Buf (Elt Bits) ((c.tc : Thread Cert.Kernel.nD Cert.Kernel.τ).loc Cert.Kernel.main_v37)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v36) = v0 c
          ∧ r.2.mem ((c.tc : Thread Cert.Kernel.nD Cert.Kernel.τ).loc Cert.Kernel.main_v37) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_v23) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hPre_pairs : Cert.Pre_pairs.Facts),
    quiescent_Kernel (hKernel := hKernel) (hPre_pairs := hPre_pairs)
    ∧ quiescent_Reference (hReference := hReference)
    ∧ quiescent_Reference_pre_pairs (hReference := hReference) (hPre_pairs := hPre_pairs)
    ∧ bitexact_Kernel_Reference (hKernel := hKernel) (hReference := hReference) (hPre_pairs := hPre_pairs)
-- ==== Pre_pairs.lean ====
abbrev S4x4096x4096 : Shape := ⟨3, ![4, 4096, 4096]⟩
abbrev S4x4096 : Shape := ⟨2, ![4, 4096]⟩
abbrev S8192x2 : Shape := ⟨2, ![8192, 2]⟩
abbrev S8192x1 : Shape := ⟨2, ![8192, 1]⟩
abbrev S8192 : Shape := ⟨1, ![8192]⟩
abbrev S_ : Shape := ⟨0, ![]⟩

class Facts : Prop where
  shapeCasts_S4x4096_S8192x2 : S4x4096.ShapeCasts S8192x2
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  reducesTo_S8192_S_d0 : S8192.ReducesTo [0] S_
  h_S_ : 0 < S_.numel

variable [Facts]

def fn_part1 {F : FTy → Type} [FloatOps F] (main_v18 : IVec S8192 1) : IVec S_ 1 :=
  let main_c_4 : IVec S_ 1 := constantI S_ 1 1#1
  let main_v19 : IVec S_ 1 := (fun x v => Host.reduce IntOp.andi x v reducesTo_S8192_S_d0 h_S_) main_v18 main_c_4
  main_v19

def fn {F : FTy → Type} [FloatOps F] (main_arg0 : FVec F S4x4096x4096 .f32) (main_arg1 : IVec S4x4096 32) : IVec S_ 1 :=
  let main_v0 : IVec S8192x2 32 := shapeCast S8192x2 main_arg1 shapeCasts_S4x4096_S8192x2
  let main_v1 : IVec S8192x1 32 := (extractStridedSlice S8192x1 ![0, 0] · slices_S8192x2_S8192x1_0_0) main_v0
  let main_v2 : IVec S8192 32 := shapeCast S8192 main_v1 shapeCasts_S8192x1_S8192
  let main_v3 : IVec S8192x1 32 := (extractStridedSlice S8192x1 ![0, 1] · slices_S8192x2_S8192x1_0_1) main_v0
  let main_v4 : IVec S8192 32 := shapeCast S8192 main_v3 shapeCasts_S8192x1_S8192
  let main_c : IVec S_ 32 := constantI S_ 32 0#32
  let main_v5 : IVec S8192 32 := broadcastInDim S8192 ![] bcast_S_S8192 main_c
  let main_v6 : IVec S8192 1 := cmpi .sge main_v2 main_v5
  let main_c_0 : IVec S_ 32 := constantI S_ 32 16384#32
  let main_v7 : IVec S8192 32 := broadcastInDim S8192 ![] bcast_S_S8192 main_c_0
  let main_v8 : IVec S8192 1 := cmpi .slt main_v2 main_v7
  let main_v9 : IVec S8192 1 := andi main_v6 main_v8
  let main_c_1 : IVec S_ 32 := constantI S_ 32 1#32
  let main_v10 : IVec S8192 32 := broadcastInDim S8192 ![] bcast_S_S8192 main_c_1
  let main_v11 : IVec S8192 32 := andi main_v2 main_v10
  let main_c_2 : IVec S_ 32 := constantI S_ 32 0#32
  let main_v12 : IVec S8192 32 := broadcastInDim S8192 ![] bcast_S_S8192 main_c_2
  let main_v13 : IVec S8192 1 := cmpi .eq main_v11 main_v12
  let main_v14 : IVec S8192 1 := andi main_v9 main_v13
  let main_c_3 : IVec S_ 32 := constantI S_ 32 1#32
  let main_v15 : IVec S8192 32 := broadcastInDim S8192 ![] bcast_S_S8192 main_c_3
  let main_v16 : IVec S8192 32 := addi main_v2 main_v15
  let main_v17 : IVec S8192 1 := cmpi .eq main_v4 main_v16
  let main_v18 : IVec S8192 1 := andi main_v14 main_v17
  fn_part1 (F := F) main_v18
-- ==== Kernel.lean ====
abbrev S4x4096x4096 : Shape := ⟨3, ![4, 4096, 4096]⟩
abbrev S4x4096 : Shape := ⟨2, ![4, 4096]⟩
abbrev S64 : Shape := ⟨1, ![64]⟩
abbrev S_ : Shape := ⟨0, ![]⟩
abbrev S32768 : Shape := ⟨1, ![32768]⟩
abbrev S32768x1 : Shape := ⟨2, ![32768, 1]⟩
abbrev S1x64 : Shape := ⟨2, ![1, 64]⟩
abbrev S32768x64 : Shape := ⟨2, ![32768, 64]⟩
abbrev S16384x128 : Shape := ⟨2, ![16384, 128]⟩
abbrev S8192x128 : Shape := ⟨2, ![8192, 128]⟩
abbrev S32x512 : Shape := ⟨2, ![32, 512]⟩
abbrev S512 : Shape := ⟨1, ![512]⟩
abbrev S2x128 : Shape := ⟨2, ![2, 128]⟩
abbrev S2x128x128 : Shape := ⟨3, ![2, 128, 128]⟩
abbrev S2 : Shape := ⟨1, ![2]⟩
abbrev S1x512 : Shape := ⟨2, ![1, 512]⟩
abbrev S16 : Shape := ⟨1, ![16]⟩
abbrev S1x16 : Shape := ⟨2, ![1, 16]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S8192x2x128 : Shape := ⟨3, ![8192, 2, 128]⟩
abbrev S2048x128 : Shape := ⟨2, ![2048, 128]⟩
abbrev S2048x2x128 : Shape := ⟨3, ![2048, 2, 128]⟩
abbrev S2048x64 : Shape := ⟨2, ![2048, 64]⟩
abbrev S2048x1x128 : Shape := ⟨3, ![2048, 1, 128]⟩
abbrev S4x4096x128 : Shape := ⟨3, ![4, 4096, 128]⟩

abbrev nBuf : Table → Nat
  | .hbm => 49
  | .local .tc .vmem => 6
  | .local .scVector .vmem => 3
  | _ => 0

abbrev bufTy : (tb : Table) → Fin (nBuf tb) → BufTy
  | .hbm, ⟨0, _⟩ => ⟨S4x4096x4096, .f32⟩
  | .hbm, ⟨1, _⟩ => ⟨S4x4096, .i32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S32768, .f32⟩
  | .hbm, ⟨19, _⟩ => ⟨S32768x1, .f32⟩
  | .hbm, ⟨20, _⟩ => ⟨S1x64, .f32⟩
  | .hbm, ⟨21, _⟩ => ⟨S32768x64, .f32⟩
  | .hbm, ⟨22, _⟩ => ⟨S32768x64, .f32⟩
  | .hbm, ⟨23, _⟩ => ⟨S32768x64, .f32⟩
  | .hbm, ⟨24, _⟩ => ⟨S32768x64, .f32⟩
  | .hbm, ⟨25, _⟩ => ⟨S32768x64, .f32⟩
  | .hbm, ⟨26, _⟩ => ⟨S32768x64, .i32⟩
  | .hbm, ⟨27, _⟩ => ⟨S_, .i32⟩
  | .hbm, ⟨28, _⟩ => ⟨S32768x64, .i32⟩
  | .hbm, ⟨29, _⟩ => ⟨S32768x64, .i32⟩
  | .hbm, ⟨30, _⟩ => ⟨S_, .i32⟩
  | .hbm, ⟨31, _⟩ => ⟨S32768x64, .i32⟩
  | .hbm, ⟨32, _⟩ => ⟨S32768x64, .i32⟩
  | .hbm, ⟨33, _⟩ => ⟨S32768x64, .f32⟩
  | .hbm, ⟨34, _⟩ => ⟨S32768x64, .f32⟩
  | .hbm, ⟨35, _⟩ => ⟨S32768x64, .i32⟩
  | .hbm, ⟨36, _⟩ => ⟨S_, .i32⟩
  | .hbm, ⟨37, _⟩ => ⟨S32768x64, .i32⟩
  | .hbm, ⟨38, _⟩ => ⟨S32768x64, .i32⟩
  | .hbm, ⟨39, _⟩ => ⟨S32768x64, .i32⟩
  | .hbm, ⟨40, _⟩ => ⟨S16384x128, .i32⟩
  | .hbm, ⟨41, _⟩ => ⟨S8192x128, .i32⟩
  | .hbm, ⟨42, _⟩ => ⟨S8192x128, .i32⟩
  | .hbm, ⟨43, _⟩ => ⟨S32x512, .i32⟩
  | .hbm, ⟨44, _⟩ => ⟨S8192x128, .i32⟩
  | .hbm, ⟨45, _⟩ => ⟨S8192x2x128, .f32⟩
  | .hbm, ⟨46, _⟩ => ⟨S8192x2x128, .f32⟩
  | .hbm, ⟨47, _⟩ => ⟨S4x4096x128, .f32⟩
  | .hbm, ⟨48, _⟩ => ⟨S4x4096x128, .f32⟩
  | .local .tc .vmem, ⟨0, _⟩ => ⟨S2048x128, .i32⟩
  | .local .tc .vmem, ⟨1, _⟩ => ⟨S2048x128, .i32⟩
  | .local .tc .vmem, ⟨2, _⟩ => ⟨S2048x2x128, .f32⟩
  | .local .tc .vmem, ⟨3, _⟩ => ⟨S2048x2x128, .f32⟩
  | .local .tc .vmem, ⟨4, _⟩ => ⟨S2048x2x128, .f32⟩
  | .local .tc .vmem, ⟨5, _⟩ => ⟨S2048x2x128, .f32⟩
  | .local .scVector .vmem, ⟨0, _⟩ => ⟨S512, .i32⟩
  | .local .scVector .vmem, ⟨1, _⟩ => ⟨S2x128, .i32⟩
  | .local .scVector .vmem, ⟨2, _⟩ => ⟨S2x128x128, .i32⟩
  | _, _ => ⟨S4x4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v36 : Ref sig .tc := ⟨.hbm, 47, rfl⟩
abbrev main_v37 : Ref sig .tc := ⟨.hbm, 48, rfl⟩
abbrev main_v32_scv : Ref sig .scVector := ⟨.hbm, 42, rfl⟩
abbrev main_v33_scv : Ref sig .scVector := ⟨.hbm, 43, rfl⟩
abbrev main_v34_scv : Ref sig .scVector := ⟨.hbm, 44, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_107_r0 : BitVec 32 := 0#32
  ![v1.toNat, 0]

def k0_chk1 (v7 : IVec S16 32) : Prop :=
  (∀ a x, ((![v7] : Fin 1 → IVec S16 32) a x).toNat < S512.size a)
theorem k0_idx1_inb : ∀ (v7 : IVec S16 32) (k0_hw1 : k0_chk1 v7), ∀ a x, ((![v7] : Fin 1 → IVec S16 32) a x).toNat < S512.size a := fun v7 k0_hw1 => k0_hw1

def k0_chk2 (v14 : IVec S16 32) : Prop :=
  (∀ a x, ((![v14] : Fin 1 → IVec S16 32) a x).toNat < S512.size a)
theorem k0_idx2_inb : ∀ (v14 : IVec S16 32) (k0_hw2 : k0_chk2 v14), ∀ a x, ((![v14] : Fin 1 → IVec S16 32) a x).toNat < S512.size a := fun v14 k0_hw2 => k0_hw2

def k0_chk3 (v21 : IVec S16 32) : Prop :=
  (∀ a x, ((![v21] : Fin 1 → IVec S16 32) a x).toNat < S512.size a)
theorem k0_idx3_inb : ∀ (v21 : IVec S16 32) (k0_hw3 : k0_chk3 v21), ∀ a x, ((![v21] : Fin 1 → IVec S16 32) a x).toNat < S512.size a := fun v21 k0_hw3 => k0_hw3

def k0_chk4 (v28 : IVec S16 32) : Prop :=
  (∀ a x, ((![v28] : Fin 1 → IVec S16 32) a x).toNat < S512.size a)
theorem k0_idx4_inb : ∀ (v28 : IVec S16 32) (k0_hw4 : k0_chk4 v28), ∀ a x, ((![v28] : Fin 1 → IVec S16 32) a x).toNat < S512.size a := fun v28 k0_hw4 => k0_hw4

def k0_chk5 (v35 : IVec S16 32) : Prop :=
  (∀ a x, ((![v35] : Fin 1 → IVec S16 32) a x).toNat < S512.size a)
theorem k0_idx5_inb : ∀ (v35 : IVec S16 32) (k0_hw5 : k0_chk5 v35), ∀ a x, ((![v35] : Fin 1 → IVec S16 32) a x).toNat < S512.size a := fun v35 k0_hw5 => k0_hw5

def k0_chk6 (v42 : IVec S16 32) : Prop :=
  (∀ a x, ((![v42] : Fin 1 → IVec S16 32) a x).toNat < S512.size a)
theorem k0_idx6_inb : ∀ (v42 : IVec S16 32) (k0_hw6 : k0_chk6 v42), ∀ a x, ((![v42] : Fin 1 → IVec S16 32) a x).toNat < S512.size a := fun v42 k0_hw6 => k0_hw6

def k0_chk7 (v49 : IVec S16 32) : Prop :=
  (∀ a x, ((![v49] : Fin 1 → IVec S16 32) a x).toNat < S512.size a)
theorem k0_idx7_inb : ∀ (v49 : IVec S16 32) (k0_hw7 : k0_chk7 v49), ∀ a x, ((![v49] : Fin 1 → IVec S16 32) a x).toNat < S512.size a := fun v49 k0_hw7 => k0_hw7

def k0_chk8 (v56 : IVec S16 32) : Prop :=
  (∀ a x, ((![v56] : Fin 1 → IVec S16 32) a x).toNat < S512.size a)
theorem k0_idx8_inb : ∀ (v56 : IVec S16 32) (k0_hw8 : k0_chk8 v56), ∀ a x, ((![v56] : Fin 1 → IVec S16 32) a x).toNat < S512.size a := fun v56 k0_hw8 => k0_hw8

def k0_chk9 (v70 : IVec S16 32) : Prop :=
  (∀ a x, ((![v70] : Fin 1 → IVec S16 32) a x).toNat < S512.size a)
theorem k0_idx9_inb : ∀ (v70 : IVec S16 32) (k0_hw9 : k0_chk9 v70), ∀ a x, ((![v70] : Fin 1 → IVec S16 32) a x).toNat < S512.size a := fun v70 k0_hw9 => k0_hw9

def k0_chk10 (v77 : IVec S16 32) : Prop :=
  (∀ a x, ((![v77] : Fin 1 → IVec S16 32) a x).toNat < S512.size a)
theorem k0_idx10_inb : ∀ (v77 : IVec S16 32) (k0_hw10 : k0_chk10 v77), ∀ a x, ((![v77] : Fin 1 → IVec S16 32) a x).toNat < S512.size a := fun v77 k0_hw10 => k0_hw10

def k0_chk11 (v84 : IVec S16 32) : Prop :=
  (∀ a x, ((![v84] : Fin 1 → IVec S16 32) a x).toNat < S512.size a)
theorem k0_idx11_inb : ∀ (v84 : IVec S16 32) (k0_hw11 : k0_chk11 v84), ∀ a x, ((![v84] : Fin 1 → IVec S16 32) a x).toNat < S512.size a := fun v84 k0_hw11 => k0_hw11

def k0_chk12 (v91 : IVec S16 32) : Prop :=
  (∀ a x, ((![v91] : Fin 1 → IVec S16 32) a x).toNat < S512.size a)
theorem k0_idx12_inb : ∀ (v91 : IVec S16 32) (k0_hw12 : k0_chk12 v91), ∀ a x, ((![v91] : Fin 1 → IVec S16 32) a x).toNat < S512.size a := fun v91 k0_hw12 => k0_hw12

def k0_chk13 (v98 : IVec S16 32) : Prop :=
  (∀ a x, ((![v98] : Fin 1 → IVec S16 32) a x).toNat < S512.size a)
theorem k0_idx13_inb : ∀ (v98 : IVec S16 32) (k0_hw13 : k0_chk13 v98), ∀ a x, ((![v98] : Fin 1 → IVec S16 32) a x).toNat < S512.size a := fun v98 k0_hw13 => k0_hw13

def k0_chk14 (v105 : IVec S16 32) : Prop :=
  (∀ a x, ((![v105] : Fin 1 → IVec S16 32) a x).toNat < S512.size a)
theorem k0_idx14_inb : ∀ (v105 : IVec S16 32) (k0_hw14 : k0_chk14 v105), ∀ a x, ((![v105] : Fin 1 → IVec S16 32) a x).toNat < S512.size a := fun v105 k0_hw14 => k0_hw14

def k0_chk15 (v112 : IVec S16 32) : Prop :=
  (∀ a x, ((![v112] : Fin 1 → IVec S16 32) a x).toNat < S512.size a)
theorem k0_idx15_inb : ∀ (v112 : IVec S16 32) (k0_hw15 : k0_chk15 v112), ∀ a x, ((![v112] : Fin 1 → IVec S16 32) a x).toNat < S512.size a := fun v112 k0_hw15 => k0_hw15

def k0_chk16 (v119 : IVec S16 32) : Prop :=
  (∀ a x, ((![v119] : Fin 1 → IVec S16 32) a x).toNat < S512.size a)
theorem k0_idx16_inb : ∀ (v119 : IVec S16 32) (k0_hw16 : k0_chk16 v119), ∀ a x, ((![v119] : Fin 1 → IVec S16 32) a x).toNat < S512.size a := fun v119 k0_hw16 => k0_hw16
def k0_off2 (i : grid0.Coords) (c0_i32_65 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v139 : BitVec 32 := Scalar.addi v2 c0_i32_65
  let c0_i32_70 : BitVec 32 := 0#32
  ![v139.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x2x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x2x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4x4096x4096 : Shape := ⟨3, ![4, 4096, 4096]⟩
abbrev S4x4096 : Shape := ⟨2, ![4, 4096]⟩
abbrev S64 : Shape := ⟨1, ![64]⟩
abbrev S_ : Shape := ⟨0, ![]⟩
abbrev S32768 : Shape := ⟨1, ![32768]⟩
abbrev S32768x1 : Shape := ⟨2, ![32768, 1]⟩
abbrev S1x64 : Shape := ⟨2, ![1, 64]⟩
abbrev S32768x64 : Shape := ⟨2, ![32768, 64]⟩
abbrev S32768x128 : Shape := ⟨2, ![32768, 128]⟩
abbrev S4x4096x1 : Shape := ⟨3, ![4, 4096, 1]⟩
abbrev S1 : Shape := ⟨1, ![1]⟩
abbrev S1x1x1 : Shape := ⟨3, ![1, 1, 1]⟩
abbrev S4x4096x128 : Shape := ⟨3, ![4, 4096, 128]⟩

abbrev nBuf : Space → Nat
  | .hbm => 75
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S32768, .f32⟩
  | .hbm, ⟨19, _⟩ => ⟨S32768x1, .f32⟩
  | .hbm, ⟨20, _⟩ => ⟨S1x64, .f32⟩
  | .hbm, ⟨21, _⟩ => ⟨S32768x64, .f32⟩
  | .hbm, ⟨22, _⟩ => ⟨S32768x64, .f32⟩
  | .hbm, ⟨23, _⟩ => ⟨S32768x64, .f32⟩
  | .hbm, ⟨24, _⟩ => ⟨S32768x128, .f32⟩
  | .hbm, ⟨25, _⟩ => ⟨S32768x128, .f32⟩
  | .hbm, ⟨26, _⟩ => ⟨S32768x128, .f32⟩
  | .hbm, ⟨27, _⟩ => ⟨S_, .i32⟩
  | .hbm, ⟨28, _⟩ => ⟨S4x4096, .i32⟩
  | .hbm, ⟨29, _⟩ => ⟨S4x4096, .i1⟩
  | .hbm, ⟨30, _⟩ => ⟨S_, .i32⟩
  | .hbm, ⟨31, _⟩ => ⟨S4x4096, .i32⟩
  | .hbm, ⟨32, _⟩ => ⟨S4x4096, .i32⟩
  | .hbm, ⟨33, _⟩ => ⟨S4x4096, .i32⟩
  | .hbm, ⟨34, _⟩ => ⟨S4x4096x1, .i32⟩
  | .hbm, ⟨35, _⟩ => ⟨S1, .i32⟩
  | .hbm, ⟨36, _⟩ => ⟨S_, .i32⟩
  | .hbm, ⟨37, _⟩ => ⟨S4x4096x1, .i32⟩
  | .hbm, ⟨38, _⟩ => ⟨S4x4096x1, .i1⟩
  | .hbm, ⟨39, _⟩ => ⟨S1x1x1, .i32⟩
  | .hbm, ⟨40, _⟩ => ⟨S4x4096x1, .i32⟩
  | .hbm, ⟨41, _⟩ => ⟨S4x4096x1, .i1⟩
  | .hbm, ⟨42, _⟩ => ⟨S4x4096x1, .i1⟩
  | .hbm, ⟨43, _⟩ => ⟨S_, .i1⟩
  | .hbm, ⟨44, _⟩ => ⟨S4x4096, .i1⟩
  | .hbm, ⟨45, _⟩ => ⟨S4x4096x128, .f32⟩
  | .hbm, ⟨46, _⟩ => ⟨S4x4096x128, .i1⟩
  | .hbm, ⟨47, _⟩ => ⟨S_, .f32⟩
  | .hbm, ⟨48, _⟩ => ⟨S4x4096x128, .f32⟩
  | .hbm, ⟨49, _⟩ => ⟨S4x4096x128, .f32⟩
  | .hbm, ⟨50, _⟩ => ⟨S_, .i32⟩
  | .hbm, ⟨51, _⟩ => ⟨S4x4096, .i32⟩
  | .hbm, ⟨52, _⟩ => ⟨S4x4096, .i1⟩
  | .hbm, ⟨53, _⟩ => ⟨S_, .i32⟩
  | .hbm, ⟨54, _⟩ => ⟨S4x4096, .i32⟩
  | .hbm, ⟨55, _⟩ => ⟨S4x4096, .i32⟩
  | .hbm, ⟨56, _⟩ => ⟨S4x4096, .i32⟩
  | .hbm, ⟨57, _⟩ => ⟨S4x4096x1, .i32⟩
  | .hbm, ⟨58, _⟩ => ⟨S1, .i32⟩
  | .hbm, ⟨59, _⟩ => ⟨S_, .i32⟩
  | .hbm, ⟨60, _⟩ => ⟨S4x4096x1, .i32⟩
  | .hbm, ⟨61, _⟩ => ⟨S4x4096x1, .i1⟩
  | .hbm, ⟨62, _⟩ => ⟨S1x1x1, .i32⟩
  | .hbm, ⟨63, _⟩ => ⟨S4x4096x1, .i32⟩
  | .hbm, ⟨64, _⟩ => ⟨S4x4096x1, .i1⟩
  | .hbm, ⟨65, _⟩ => ⟨S4x4096x1, .i1⟩
  | .hbm, ⟨66, _⟩ => ⟨S_, .i1⟩
  | .hbm, ⟨67, _⟩ => ⟨S4x4096, .i1⟩
  | .hbm, ⟨68, _⟩ => ⟨S4x4096x128, .f32⟩
  | .hbm, ⟨69, _⟩ => ⟨S4x4096x128, .i1⟩
  | .hbm, ⟨70, _⟩ => ⟨S_, .f32⟩
  | .hbm, ⟨71, _⟩ => ⟨S4x4096x128, .f32⟩
  | .hbm, ⟨72, _⟩ => ⟨S4x4096x128, .f32⟩
  | .hbm, ⟨73, _⟩ => ⟨S4x4096x128, .f32⟩
  | .hbm, ⟨74, _⟩ => ⟨S4x4096x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v20 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩

abbrev nD : Nat := 1
abbrev τ : Topo := Topo.v7x

variable {F : FTy → Type} [BitOps F]
-- ==== Proof.Setup.lean ====
/-
  The setting of the kernel's proof: the program as the SparseCore launch theorem sees it, the
  resource algebra (the handshakes' cells, the TensorCore pipeline's cells, the local transfers'
  counters), the three arrays the SparseCore call takes and how the 32 tiles share them, the
  contents `G` the call leaves in its result, and what the call's handshakes carry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionArraysS
public import Idealize.ShloMosaic.Lib.Tactic
public import Idealize.ShloMosaic.Lib.ValueIdx

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

/-! ## The program -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

/-- What the launch decides of the SparseCore call's semaphores and buffers. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' cells. -/
abbrev UH : Type := URounds (GSem nD τ sig) ℕ
/-- The TensorCore pipeline's cells. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's cells sit in the middle factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The call's arrays and their parts -/

abbrev tLoc (d : Dev nD) : Loc nD τ sig := (SparseCore.T d).loc main_v32
abbrev pLoc (d : Dev nD) : Loc nD τ sig := (SparseCore.T d).loc main_v33
abbrev oLoc (d : Dev nD) : Loc nD τ sig := (SparseCore.T d).loc main_v34

abbrev tV : Memref sig Kind.scVector Space.hbm S8192x128 EltTy.i32 := Memref.whole main_v32_scv
abbrev pV : Memref sig Kind.scVector Space.hbm S32x512 EltTy.i32 := Memref.whole main_v33_scv
abbrev oV : Memref sig Kind.scVector Space.hbm S8192x128 EltTy.i32 := Memref.whole main_v34_scv
abbrev aV : Memref sig Kind.scVector Space.vmem S512 EltTy.i32 := Memref.whole cc0_scratch0
abbrev bV : Memref sig Kind.scVector Space.vmem S2x128 EltTy.i32 := Memref.whole cc0_scratch1
abbrev cV : Memref sig Kind.scVector Space.vmem S2x128x128 EltTy.i32 := Memref.whole cc0_scratch2

theorem pdiv : 32 ∣ S32x512.size 0 := ⟨1, rfl⟩
theorem odiv : 64 ∣ S8192x128.size 0 := ⟨128, rfl⟩
/-- Row `w` of the positions; block `k`, of 128 rows, of the result. -/
abbrev prow (w : Fin 32) : Rect S32x512 := Rect.part (s := S32x512) (a₀ := 0) pdiv w
abbrev oblk (k : Fin 64) : Rect S8192x128 := Rect.part (s := S8192x128) (a₀ := 0) odiv k
abbrev pSet (w : Fin 32) : Finset S32x512.Idx := (pV.view.slice (prow w)).set
abbrev oSet (k : Fin 64) : Finset S8192x128.Idx := (oV.view.slice (oblk k)).set

/-- The number of tile `i` of SparseCore `c`, and its two blocks of the result. -/
def wid (c : Fin 2) (i : Fin 16) : Fin 32 := ⟨2 * i.val + c.val, by omega⟩
def blk (w : Fin 32) (r : Fin 2) : Fin 64 := ⟨2 * w.val + r.val, by omega⟩

/-- Tile `w`'s share of the table. -/
abbrev tq (w : Fin 32) : PosShare TreeShare := Transfers.dealOf fullShare (Finset.univ : Finset (Fin 32)) w

/-! ## What the call leaves in its result -/

/-- The word of the positions array that names result row `n`: row `n / 256`, column `2 (n mod 256)`. -/
def posOf (PP : S32x512.Idx → BitVec 32) (n : Fin 8192) : BitVec 32 :=
  PP (ix2 ⟨n.val / 256, by omega⟩ ⟨2 * (n.val % 256), by omega⟩)

/-- Row `n` of the result is the table's row at half its position. -/
def gath (TT : S8192x128.Idx → BitVec 32) (PP : S32x512.Idx → BitVec 32) : S8192x128.Idx → BitVec 32 :=
  fun x => TT (ix2 ⟨(posOf PP (x 0) >>> 1).toNat % 8192, Nat.mod_lt _ (by decide)⟩ (x 1))

/-- Every position in an even column names a row of the table. -/
def InTable (PP : S32x512.Idx → BitVec 32) : Prop := ∀ j : S32x512.Idx, (j 1).val % 2 = 0 → (PP j).toNat < 16384

/-! ## What the handshakes carry -/

variable (TT : (d : Dev nD) → Buf (Elt F) (tLoc d)) (PP : (d : Dev nD) → Buf (Elt F) (pLoc d)) (O0 : (d : Dev nD) → Buf (Elt F) (oLoc d))

/-- The result's contents after the call. -/
abbrev G (d : Dev nD) : Buf (Elt F) (oLoc d) := gath (TT d) (PP d)

abbrev tPts (d : Dev nD) (w : Fin 32) : sProp 𝕄 := tLoc d ↦{tq w} TT d
abbrev pPts (d : Dev nD) (w : Fin 32) : sProp 𝕄 := pLoc d ↦[pSet w]{fullShare} PP d
abbrev oPts (d : Dev nD) (k : Fin 64) (f : Buf (Elt F) (oLoc d)) : sProp 𝕄 := oLoc d ↦[oSet k]{fullShare} f

/-- What tile `w` is given, -/
abbrev goTile (d : Dev nD) (w : Fin 32) : sProp 𝕄 :=
  iprop(pPts PP d w ∗ tPts TT d w ∗ oPts d (blk w 0) (O0 d) ∗ oPts d (blk w 1) (O0 d))
/-- and what it brings back. -/
abbrev tdTile (d : Dev nD) (w : Fin 32) : sProp 𝕄 :=
  iprop(pPts PP d w ∗ tPts TT d w ∗ oPts d (blk w 0) (G TT PP d) ∗ oPts d (blk w 1) (G TT PP d))

/-- The one call: each SparseCore takes what its sixteen tiles take. -/
def P : (K (F := F)).Pay (nD := nD) (Val := Elt F) (Name := ℕ) (U := UU) where
  st := fun q d c => match q with
    | 0 => bigSep Finset.univ fun i : Fin 16 => goTile TT PP O0 d (wid (Fin.cast nCore_eq c) i)
  dn := fun q d c => match q with
    | 0 => bigSep Finset.univ fun i : Fin 16 => tdTile TT PP d (wid (Fin.cast nCore_eq c) i)
  go := fun q d c i => match q with
    | 0 => goTile TT PP O0 d (wid (Fin.cast nCore_eq c) (Fin.cast nSub_eq i))
  td := fun q d c i => match q with
    | 0 => tdTile TT PP d (wid (Fin.cast nCore_eq c) (Fin.cast nSub_eq i))
  x := fun _ _ => iprop(emp)

instance P_storable : (P TT PP O0).IsStorable where
  st q d c := match q with
    | 0 => (inferInstance : BI.Storable (upEmb : UEmb _ 𝕄) (bigSep Finset.univ fun i : Fin 16 => goTile TT PP O0 d (wid (Fin.cast nCore_eq c) i)))
  dn q d c := match q with
    | 0 => (inferInstance : BI.Storable (upEmb : UEmb _ 𝕄) (bigSep Finset.univ fun i : Fin 16 => tdTile TT PP d (wid (Fin.cast nCore_eq c) i)))
  go q d c i := match q with
    | 0 => (inferInstance : BI.Storable (upEmb : UEmb _ 𝕄) (goTile TT PP O0 d (wid (Fin.cast nCore_eq c) (Fin.cast nSub_eq i))))
  td q d c i := match q with
    | 0 => (inferInstance : BI.Storable (upEmb : UEmb _ 𝕄) (tdTile TT PP d (wid (Fin.cast nCore_eq c) (Fin.cast nSub_eq i))))

end Cert.Proof.Rope

end
-- ==== Proof.Rows.lean ====
/-
  The pure facts of a tile's task: how the views it copies through place their elements, the words
  the sixteen-lane steps compute (twice the lane plus an offset, halved positions), what a stored
  group leaves in the list of row numbers, and what the two row fetches deliver.
-/
module

public import proofs.«01_k».proof.Proof.Setup
public import Idealize.ShloMosaic.Lib.ValueLayout

@[expose] public section

noncomputable section

namespace Cert.Proof.Rope

open Cert.Kernel Cert.Kernel.Gen

open Idealize.ShloMosaic
open Idealize.ShloMosaic.ValueIdx
open Idealize.ShloMosaic.SparseCore (S V T)

variable {F : FTy → Type} [BitOps F]

/-! ## The views a tile copies through -/

/-- The tile of a grid point. -/
def tileOf (L : grid0.Coords) : Fin 32 := wid ⟨(L 0).val, (L 0).isLt⟩ ⟨(L 1).val, (L 1).isLt⟩

theorem tileOf_val (L : grid0.Coords) : (tileOf L).val = 2 * (L 1).val + (L 0).val := rfl

abbrev prowK (L : grid0.Coords) : Rect S32x512 := Rect.unit (s := S32x512) (k0_off1 L) S1x512.size (k0_off1_inb L)
/-- The tile's row of positions, as it addresses it. -/
abbrev pRowK (L : grid0.Coords) : Memref sig .scVector .hbm S512 .i32 := (pV.slice (prowK L) (fun _ => rfl)).squeeze S512 squeezes_S1x512_S512
/-- The whole table, as it addresses it. -/
abbrev tAllK : Memref sig .scVector .hbm S8192x128 .i32 := tV.slice (Rect.unit (s := S8192x128) ![0, 0] S8192x128.size inb_S8192x128_S8192x128_0_0) (fun _ => rfl)
/-- Its two blocks of the result. -/
abbrev oBlk0 (L : grid0.Coords) : Memref sig .scVector .hbm S128x128 .i32 :=
  oV.slice (Rect.unit (s := S8192x128) (k0_off2 L 0#32) S128x128.size (k0_off2_inb L 0)) (fun _ => rfl)
abbrev oBlk1 (L : grid0.Coords) : Memref sig .scVector .hbm S128x128 .i32 :=
  oV.slice (Rect.unit (s := S8192x128) (k0_off2 L 128#32) S128x128.size (k0_off2_inb L 1)) (fun _ => rfl)
/-- The two lists of row numbers, and the two slabs the rows land in. -/
abbrev lst0 : Memref sig .scVector .vmem S128 .i32 := (bV.slice (Rect.unit (s := S2x128) ![0, 0] S1x128.size inb_S2x128_S1x128_0_0) (fun _ => rfl)).squeeze S128 squeezes_S1x128_S128
abbrev lst1 : Memref sig .scVector .vmem S128 .i32 := (bV.slice (Rect.unit (s := S2x128) ![1, 0] S1x128.size inb_S2x128_S1x128_1_0) (fun _ => rfl)).squeeze S128 squeezes_S1x128_S128
abbrev slab0 : Memref sig .scVector .vmem S128x128 .i32 := (cV.slice (Rect.unit (s := S2x128x128) ![0, 0, 0] S1x128x128.size inb_S2x128x128_S1x128x128_0_0_0) (fun _ => rfl)).squeeze S128x128 squeezes_S1x128x128_S128x128
abbrev slab1 : Memref sig .scVector .vmem S128x128 .i32 := (cV.slice (Rect.unit (s := S2x128x128) ![1, 0, 0] S1x128x128.size inb_S2x128x128_S1x128x128_1_0_0) (fun _ => rfl)).squeeze S128x128 squeezes_S1x128x128_S128x128

/-- A vector's index matched with one row of that length. -/
theorem reshape_row {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)

theorem pRowK_emb (L : grid0.Coords) (t : Fin 512) : (pRowK L).view.emb (ix1 t) = ix2 (tileOf L) t := by
  show (prowK L).emb (Shape.reshapeEquiv squeezes_S1x512_S512.numel_eq (ix1 t)) = _
  rw [reshape_row]
  funext a
  apply Fin.ext
  show (k0_off1 L) a + 1 * ((ix2 (⟨0, Nat.one_pos⟩ : Fin 1) t : (⟨2, ![1, 512]⟩ : Shape).Idx) a).val = _
  rw [k0_off1_eq]
  match a with
  | 0 => show (2 * (L 1).val + (L 0).val) + 1 * 0 = _; rw [Nat.mul_zero, Nat.add_zero]; rfl
  | 1 => show 0 + 1 * t.val = t.val; omega

theorem oBlk0_emb (L : grid0.Coords) (k l : Fin 128) :
    (oBlk0 L).view.emb (ix2 k l) = ix2 ⟨128 * (2 * (tileOf L).val + 0) + k.val, by have := (tileOf L).isLt; omega⟩ l := by
  funext a
  apply Fin.ext
  show (k0_off2 L 0#32) a + 1 * ((ix2 k l : S128x128.Idx) a).val = _
  rw [show (0#32 : BitVec 32) = BitVec.ofNat 32 (128 * (0 : Fin 2).val) from rfl, k0_off2_eq]
  match a with
  | 0 => show (512 * (L 1).val + 256 * (L 0).val + 128 * 0) + 1 * k.val = 128 * (2 * (2 * (L 1).val + (L 0).val) + 0) + k.val; omega
  | 1 => show 0 + 1 * l.val = l.val; omega

theorem oBlk1_emb (L : grid0.Coords) (k l : Fin 128) :
    (oBlk1 L).view.emb (ix2 k l) = ix2 ⟨128 * (2 * (tileOf L).val + 1) + k.val, by have := (tileOf L).isLt; omega⟩ l := by
  funext a
  apply Fin.ext
  show (k0_off2 L 128#32) a + 1 * ((ix2 k l : S128x128.Idx) a).val = _
  rw [show (128#32 : BitVec 32) = BitVec.ofNat 32 (128 * (1 : Fin 2).val) from rfl, k0_off2_eq]
  match a with
  | 0 => show (512 * (L 1).val + 256 * (L 0).val + 128 * 1) + 1 * k.val = 128 * (2 * (2 * (L 1).val + (L 0).val) + 1) + k.val; omega
  | 1 => show 0 + 1 * l.val = l.val; omega

theorem lst0_emb (k : Fin 128) : lst0.view.emb (ix1 k) = ix2 (0 : Fin 2) k := by
  show (Rect.unit (s := S2x128) ![0, 0] S1x128.size inb_S2x128_S1x128_0_0).emb (Shape.reshapeEquiv squeezes_S1x128_S128.numel_eq (ix1 k)) = _
  rw [reshape_row]
  funext a
  apply Fin.ext
  match a with
  | 0 => rfl
  | 1 => show 0 + 1 * k.val = k.val; omega
theorem lst1_emb (k : Fin 128) : lst1.view.emb (ix1 k) = ix2 (1 : Fin 2) k := by
  show (Rect.unit (s := S2x128) ![1, 0] S1x128.size inb_S2x128_S1x128_1_0).emb (Shape.reshapeEquiv squeezes_S1x128_S128.numel_eq (ix1 k)) = _
  rw [reshape_row]
  funext a
  apply Fin.ext
  match a with
  | 0 => rfl
  | 1 => show 0 + 1 * k.val = k.val; omega

/-- The two lists, and the two slabs, lie apart. -/
theorem lst_disjoint : Disjoint lst0.view.set lst1.view.set := by
  rw [Finset.disjoint_left]
  intro i h0 h1
  obtain ⟨x, -, rfl⟩ := Finset.mem_map.mp h0
  obtain ⟨y, -, hy⟩ := Finset.mem_map.mp h1
  obtain ⟨k, rfl⟩ : ∃ k : Fin 128, x = ix1 k := ⟨x 0, eq_ix1 x⟩
  obtain ⟨l, rfl⟩ : ∃ l : Fin 128, y = ix1 l := ⟨y 0, eq_ix1 y⟩
  rw [lst0_emb, lst1_emb] at hy
  exact absurd (congrArg Fin.val (congrFun hy 0)) (show ¬ ((1 : ℕ) = 0) by decide)

theorem slab0_emb (k l : Fin 128) : slab0.view.emb (ix2 k l) = ix3 (0 : Fin 2) k l := by
  show (Rect.unit (s := S2x128x128) ![0, 0, 0] S1x128x128.size inb_S2x128x128_S1x128x128_0_0_0).emb
    (Shape.reshapeEquiv squeezes_S1x128x128_S128x128.numel_eq (ix2 k l)) = _
  rw [reshapeEquiv_ix2_1ab]
  funext a
  apply Fin.ext
  match a with
  | 0 => rfl
  | 1 => show 0 + 1 * k.val = k.val; omega
  | 2 => show 0 + 1 * l.val = l.val; omega
theorem slab1_emb (k l : Fin 128) : slab1.view.emb (ix2 k l) = ix3 (1 : Fin 2) k l := by
  show (Rect.unit (s := S2x128x128) ![1, 0, 0] S1x128x128.size inb_S2x128x128_S1x128x128_1_0_0).emb
    (Shape.reshapeEquiv squeezes_S1x128x128_S128x128.numel_eq (ix2 k l)) = _
  rw [reshapeEquiv_ix2_1ab]
  funext a
  apply Fin.ext
  match a with
  | 0 => rfl
  | 1 => show 0 + 1 * k.val = k.val; omega
  | 2 => show 0 + 1 * l.val = l.val; omega
theorem slab_disjoint : Disjoint slab0.view.set slab1.view.set := by
  rw [Finset.disjoint_left]
  intro i h0 h1
  obtain ⟨x, -, rfl⟩ := Finset.mem_map.mp h0
  obtain ⟨y, -, hy⟩ := Finset.mem_map.mp h1
  obtain ⟨k, l, rfl⟩ : ∃ k l : Fin 128, x = ix2 k l := ⟨x 0, x 1, eq_ix2 x⟩
  obtain ⟨k', l', rfl⟩ : ∃ k l : Fin 128, y = ix2 k l := ⟨y 0, y 1, eq_ix2 y⟩
  rw [slab0_emb, slab1_emb] at hy
  exact absurd (congrArg Fin.val (congrFun hy 0)) (show ¬ ((1 : ℕ) = 0) by decide)

/-! ## The sets of those views, as the call's split names them -/

theorem set_pRowK (L : grid0.Coords) : (pRowK L).view.set = pSet (tileOf L) := by
  show ((pV.view.slice (prowK L)).reshape S512 squeezes_S1x512_S512.numel_eq).set = (pV.view.slice (prow (tileOf L))).set
  rw [View.set_reshape]
  have e : prowK L = prow (tileOf L) := by
    unfold prowK prow Rect.part Rect.block
    congr 1 <;> funext a
    · rw [k0_off1_eq]
      match a with
      | 0 => simp [Shape.partIx, Shape.partSize, tileOf_val]
      | 1 => simp [Shape.partIx, Shape.partSize]
    · match a with
      | 0 => simp [Shape.partSize]
      | 1 => simp [Shape.partSize]
  exact e ▸ rfl

theorem set_oBlk0 (L : grid0.Coords) : (oBlk0 L).view.set = oSet (blk (tileOf L) 0) := by
  have e : Rect.unit (s := S8192x128) (k0_off2 L 0#32) S128x128.size (k0_off2_inb L 0) = oblk (blk (tileOf L) 0) := by
    unfold oblk Rect.part Rect.block
    congr 1 <;> funext a
    · rw [show (0#32 : BitVec 32) = BitVec.ofNat 32 (128 * (0 : Fin 2).val) from rfl, k0_off2_eq]
      match a with
      | 0 => simp [Shape.partIx, Shape.partSize, blk, tileOf_val]; omega
      | 1 => simp [Shape.partIx, Shape.partSize]
    · match a with
      | 0 => simp [Shape.partSize]
      | 1 => simp [Shape.partSize]
  show (oV.view.slice (Rect.unit (s := S8192x128) (k0_off2 L 0#32) S128x128.size (k0_off2_inb L 0))).set = (oV.view.slice (oblk (blk (tileOf L) 0))).set
  exact e ▸ rfl
theorem set_oBlk1 (L : grid0.Coords) : (oBlk1 L).view.set = oSet (blk (tileOf L) 1) := by
  have e : Rect.unit (s := S8192x128) (k0_off2 L 128#32) S128x128.size (k0_off2_inb L 1) = oblk (blk (tileOf L) 1) := by
    unfold oblk Rect.part Rect.block
    congr 1 <;> funext a
    · rw [show (128#32 : BitVec 32) = BitVec.ofNat 32 (128 * (1 : Fin 2).val) from rfl, k0_off2_eq]
      match a with
      | 0 => simp [Shape.partIx, Shape.partSize, blk, tileOf_val]; omega
      | 1 => simp [Shape.partIx, Shape.partSize]
    · match a with
      | 0 => simp [Shape.partSize]
      | 1 => simp [Shape.partSize]
  show (oV.view.slice (Rect.unit (s := S8192x128) (k0_off2 L 128#32) S128x128.size (k0_off2_inb L 1))).set = (oV.view.slice (oblk (blk (tileOf L) 1))).set
  exact e ▸ rfl

/-! ## The words of a sixteen-lane step -/

/-- Twice the lane. -/
theorem lane2 (l : S16.Idx) : k0_pay1 l = BitVec.ofNat 32 (2 * (l 0).val) := by
  have hl : (l 0).val < 16 := (l 0).isLt
  show BitVec.ofNat 32 (0 * 16 + (l 0).val) * 2#32 = _
  apply BitVec.eq_of_toNat_eq
  simp only [BitVec.toNat_mul, BitVec.toNat_ofNat]
  omega

/-- A step's indices: twice the lane, plus the step's offset. -/
def laneIdx (o : ℕ) : IVec S16 32 := addi k0_pay1 (broadcast S16 (BitVec.ofNat 32 o))

theorem laneIdx_toNat (o : ℕ) (ho : o < 512) (l : S16.Idx) : (laneIdx o l).toNat = 2 * (l 0).val + o := by
  have hl : (l 0).val < 16 := (l 0).isLt
  show (k0_pay1 l + BitVec.ofNat 32 o).toNat = _
  rw [lane2]
  simp only [BitVec.toNat_add, BitVec.toNat_ofNat]
  omega

/-- They name words of the tile's row of positions. -/
theorem laneIdx_inb (o : ℕ) (ho : o < 481) : ∀ a x, ((![laneIdx o] : Fin 1 → IVec S16 32) a x).toNat < S512.size a := by
  intro a x
  obtain rfl : a = 0 := Subsingleton.elim _ _
  have hl : (x 0).val < 16 := (x 0).isLt
  show (laneIdx o x).toNat < 512
  rw [laneIdx_toNat o (by omega)]
  omega

/-- The `j`-th list of row numbers holds, in its first `16 n` places, the halves of the positions. -/
def Good (j n : ℕ) (A : S512.Idx → BitVec 32) (f : S2x128.Idx → BitVec 32) : Prop :=
  ∀ x : S2x128.Idx, (x 0).val = j → (x 1).val < 16 * n → f x = A (ix1 ⟨(256 * j + 2 * (x 1).val) % 512, Nat.mod_lt _ (by decide)⟩) >>> 1

theorem good_zero (j : ℕ) (A : S512.Idx → BitVec 32) (f : S2x128.Idx → BitVec 32) : Good j 0 A f := by
  intro x _ h; omega

/-- The halved words of a step. -/
def halved (A : S512.Idx → BitVec 32) (o : ℕ) (ho : o < 481) : IVec S16 32 :=
  shrui (loadIdx (F := F) (e := .i32) A ![laneIdx o] (laneIdx_inb o ho)) (broadcast S16 1#32)

theorem halved_apply (A : S512.Idx → BitVec 32) (o : ℕ) (ho : o < 481) (l : S16.Idx) :
    halved (F := F) A o ho l = A (ix1 ⟨2 * (l 0).val + o, by have : (l 0).val < 16 := (l 0).isLt; omega⟩) >>> 1 := by
  have e : idxAt (s := S512) ![laneIdx o] (laneIdx_inb o ho) l = ix1 ⟨2 * (l 0).val + o, by have : (l 0).val < 16 := (l 0).isLt; omega⟩ := by
    funext a
    obtain rfl : a = 0 := Subsingleton.elim _ _
    exact Fin.ext (laneIdx_toNat o (by omega) l)
  show IntOp.shrui .vector (A (idxAt (s := S512) ![laneIdx o] (laneIdx_inb o ho) l)) 1#32 = _
  rw [e]; rfl

/-- Storing a step's halved words after the earlier ones extends the list by sixteen places. -/
theorem good_store (j n : ℕ) (hj : j < 2) (hn : n < 8) (A : S512.Idx → BitVec 32) (f : S2x128.Idx → BitVec 32)
    (off : Fin 2 → ℕ) (inb : ∀ a, off a + S1x16.size a ≤ S2x128.size a) (hoff : off = ![j, 16 * n])
    (hf : Good j n A f) (o : ℕ) (ho : o < 481) (ho' : o = 256 * j + 32 * n)
    (w : S16.Idx → BitVec 32) (hw : w = halved (F := F) A o ho) (hc : S16.ShapeCasts S1x16) :
    Good j (n + 1) A ((bV.access (Rect.unit (s := S2x128) off S1x16.size inb)).write (Elt F) f (shapeCast S1x16 w hc) Finset.univ) := by
  subst hoff ho' hw
  intro x hx0 hx1
  by_cases h : (x 1).val < 16 * n
  · have hnot : x ∉ (bV.access (Rect.unit (s := S2x128) ![j, 16 * n] S1x16.size inb)).setOn Finset.univ := by
      intro hm
      obtain ⟨y, -, hy⟩ := Finset.mem_map.mp hm
      have := congrArg Fin.val (congrFun hy 1)
      have h2 : 16 * n + 1 * (y 1).val = (x 1).val := this
      omega
    rw [View.write_of_not_mem _ _ _ hnot]
    exact hf x hx0 h
  · have hk : (x 1).val - 16 * n < 16 := by omega
    have hx : x = (bV.access (Rect.unit (s := S2x128) ![j, 16 * n] S1x16.size inb)).emb
        (ix2 (⟨0, Nat.one_pos⟩ : Fin 1) (⟨(x 1).val - 16 * n, hk⟩ : Fin 16)) := by
      funext a
      apply Fin.ext
      match a with
      | 0 => show (x 0).val = j + 1 * 0; omega
      | 1 => show (x 1).val = 16 * n + 1 * ((x 1).val - 16 * n); omega
    conv_lhs => rw [hx, View.write_emb_of_mem _ _ (Finset.mem_univ _)]
    rw [show shapeCast S1x16 (halved (F := F) A (256 * j + 32 * n) ho) hc (ix2 (⟨0, Nat.one_pos⟩ : Fin 1) (⟨(x 1).val - 16 * n, hk⟩ : Fin 16))
      = halved (F := F) A (256 * j + 32 * n) ho (ix1 ⟨(x 1).val - 16 * n, hk⟩) from shapeCast_a_1a_apply _ hc _ _, cast_eq, halved_apply]
    congr 2
    apply congrArg
    apply Fin.ext
    show 2 * ((x 1).val - 16 * n) + (256 * j + 32 * n) = (256 * j + 2 * (x 1).val) % 512
    have : (x 1).val < 128 := (x 1).isLt
    omega

/-! ## What the fetched rows are -/

/-- The full list names, at place `k`, half the position of the result's row `256 w + 128 j + k`. -/
theorem good_row (PP : S32x512.Idx → BitVec 32) (w : Fin 32) (A : S512.Idx → BitVec 32) (hA : ∀ t : Fin 512, A (ix1 t) = PP (ix2 w t))
    (j : Fin 2) (f : S2x128.Idx → BitVec 32) (hf : Good j.val 8 A f) (k : Fin 128) :
    f (ix2 j k) = posOf PP ⟨128 * (2 * w.val + j.val) + k.val, by omega⟩ >>> 1 := by
  rw [hf (ix2 j k) rfl (by have : k.val < 128 := k.isLt; show k.val < _; omega), hA]
  unfold posOf
  congr 2
  apply congrArg₂ ix2 <;> apply Fin.ext
  · show w.val = (128 * (2 * w.val + j.val) + k.val) / 256; omega
  · show (256 * j.val + 2 * k.val) % 512 = 2 * ((128 * (2 * w.val + j.val) + k.val) % 256); omega

/-- Under the precondition a row number is a row of the table. -/
theorem row_lt (PP : S32x512.Idx → BitVec 32) (hpre : InTable PP) (n : Fin 8192) : (posOf PP n >>> 1).toNat < 8192 := by
  have h : (posOf PP n).toNat < 16384 := hpre _ (by show (2 * (n.val % 256)) % 2 = 0; omega)
  rw [BitVec.toNat_ushiftRight, Nat.shiftRight_eq_div_pow]; omega

/-- The rows a list names, laid in order, are the result's block. -/
theorem payload_eq (TT : S8192x128.Idx → BitVec 32) (PP : S32x512.Idx → BitVec 32) (hpre : InTable PP) (w : Fin 32) (j : Fin 2)
    (idx : S128.Idx → BitVec 32) (hidx : ∀ k : Fin 128, idx (ix1 k) = posOf PP ⟨128 * (2 * w.val + j.val) + k.val, by omega⟩ >>> 1)
    (hn : S128.numel = S128x128.size gathers_S8192x128_S128x128.axis') (hin : ∀ x, (idx x).toNat < S8192x128.size gathers_S8192x128_S128x128.axis)
    (k l : Fin 128) :
    SparseCore.gatherPayload (F := F) (e := .i32) gathers_S8192x128_S128x128 TT (SparseCore.rows (F := F) idx hn hin) (ix2 k l)
      = gath TT PP (ix2 ⟨128 * (2 * w.val + j.val) + k.val, by omega⟩ l) := by
  have e : S128.rowMajor.symm (Fin.cast hn.symm k) = ix1 k := by
    rw [Equiv.symm_apply_eq]
    apply Fin.ext
    rw [Shape.rowMajor_val_one]; rfl
  show TT _ = TT _
  congr 1
  funext a
  apply Fin.ext
  match a with
  | 0 =>
    refine (congrArg Fin.val (Shape.Gathers.idx_axis gathers_S8192x128_S128x128 _ (ix2 k l))).trans ?_
    show (idx (S128.rowMajor.symm (Fin.cast hn.symm k))).toNat = (posOf PP ⟨128 * (2 * w.val + j.val) + k.val, _⟩ >>> 1).toNat % 8192
    rw [e, hidx, Nat.mod_eq_of_lt (row_lt PP hpre _)]
  | 1 => exact Shape.Gathers.idx_of_ne gathers_S8192x128_S128x128 _ (ix2 k l) 1 (by decide)

end Cert.Proof.Rope

end
-- ==== Proof.Steps.lean ====
/-
  One sixteen-lane step of a tile's task, as two rules: the indexed load of the tile's positions,
  with its range check, and the load-and-store that lays the halved words in a list of row numbers.
  And the parts of the task that are those steps only.
-/
module

public import proofs.«01_k».proof.Proof.Rows

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The SparseCore and the tile of a grid point, as the machine counts them. -/
abbrev coreOf (L : grid0.Coords) : Fin τ.nSC := (L 0).castLE hcore0
abbrev subOf (L : grid0.Coords) : Fin τ.nSub := (L 1).castLE hsub0

variable (d : Dev nD) (L : grid0.Coords)

/-- The tile's thread. -/
abbrev me : Thread nD τ := V d (coreOf L) (subOf L)
/-- Its positions, and the two lists of row numbers, as held. -/
abbrev aPts (A : S512.Idx → BitVec 32) : sProp 𝕄 :=
  aV.view.loc (me d L) ↦{fullShare} (show Buf (Elt F) (aV.view.loc (me d L)) from A)
abbrev bPts (s : Finset S2x128.Idx) (f : S2x128.Idx → BitVec 32) : sProp 𝕄 :=
  bV.view.loc (me d L) ↦[s]{fullShare} (show Buf (Elt F) (bV.view.loc (me d L)) from f)

theorem read_aV (A : S512.Idx → BitVec 32) : (aV.access (.whole S512)).read (Elt F) A = A := by
  funext x
  refine (View.read_apply _ _).trans ((cast_eq _ _).trans (congrArg A ?_))
  funext a
  apply Fin.ext
  show 0 + 1 * (x a).val = _
  omega

/-- The indexed load at an offset: the check passes, and the lanes read the positions two apart. -/
theorem wp_idx {α : Type} {Q : α → sProp 𝕄} (A : S512.Idx → BitVec 32) (o : ℕ) (ho : o < 481) (v : IVec S16 32) (hv : v = laneIdx o)
    {chk : IVec S16 32 → Prop} {dec : Decidable (chk v)}
    (hin : chk v → ∀ a x, ((![v] : Fin 1 → IVec S16 32) a x).toNat < S512.size a) (hchk : chk v)
    {k : PLift (chk v) → Vec F S16 .i32 → Prog (TpuEff nD τ sig (Elt F) Λ₀ (.scVector (coreOf L) (subOf L))) α} :
    aPts (F := F) d L A
      ⊢ iprop((aPts (F := F) d L A -∗ wp frame (wpE (defs₀ (F := F)) 𝒱₀ (me d L) none) Set.univ
            (k ⟨hchk⟩ (loadIdx (F := F) (e := .i32) A ![laneIdx o] (laneIdx_inb o ho))) Q)
        -∗ wp frame (wpE (defs₀ (F := F)) 𝒱₀ (me d L) none) Set.univ
            (Prog.lift (TpuEff.assume (chk v) dec) >>= fun x => SparseCore.vectorLoadIdx aV ![v] (hin x.down) (View.loads_vmem h_S512) >>= k x) Q) := by
  subst hv
  simp only [Prog.lift, Prog.bind_op, Prog.bind_ret]
  rw [wp_assume_of _ _ _ _ hchk]
  have h := SparseCore.wp_vectorLoadIdx (defs := defs₀ (F := F)) (Q := Q) 𝒱₀ (me d L) none Set.univ (base := aV) (idxs := ![laneIdx o]) (h := laneIdx_inb o ho)
    (hl := View.loads_vmem h_S512) (k := k ⟨hchk⟩) (S := Finset.univ) (q := fullShare) (f := A) (Finset.subset_univ _)
  rw [read_aV] at h
  exact h

/-- Loading a group of sixteen places of a list (and dropping what is read), then storing the halved words there. -/
theorem wp_put {α : Type} {Q : α → sProp 𝕄} (s : Finset S2x128.Idx) (j n : ℕ) (hj : j < 2) (hn : n < 8) (A : S512.Idx → BitVec 32)
    (f : S2x128.Idx → BitVec 32) (hf : Good j n A f) (o : ℕ) (ho : o < 481) (ho' : o = 256 * j + 32 * n)
    (off : Fin 2 → ℕ) (inb : ∀ a, off a + S1x16.size a ≤ S2x128.size a) (hoff : off = ![j, 16 * n])
    (hs : (bV.access (Rect.unit (s := S2x128) off S1x16.size inb)).set ⊆ s)
    (w : S16.Idx → BitVec 32) (hw : w = halved (F := F) A o ho)
    {k : PUnit → Prog (TpuEff nD τ sig (Elt F) Λ₀ (.scVector (coreOf L) (subOf L))) α} :
    bPts (F := F) d L s f
      ⊢ iprop((∀ f' : S2x128.Idx → BitVec 32, ⌜Good j (n + 1) A f'⌝ -∗ bPts (F := F) d L s f' -∗ wp frame (wpE (defs₀ (F := F)) 𝒱₀ (me d L) none) Set.univ (k ⟨⟩) Q)
        -∗ wp frame (wpE (defs₀ (F := F)) 𝒱₀ (me d L) none) Set.univ
            (Prog.lift (TpuEff.store bV (Rect.unit (s := S2x128) off S1x16.size inb) (shapeCast S1x16 w shapeCasts_S16_S1x16) Finset.univ
              (View.stores_vmem_bits_univ h_S1x16 rfl) (.inl rfl)) >>= k) Q) := by
  simp only [Prog.lift, Prog.bind_op, Prog.bind_ret]
  have h := wp_store (defs := defs₀ (F := F)) (Q := Q) 𝒱₀ (me d L) none Set.univ (m := bV) (r := Rect.unit (s := S2x128) off S1x16.size inb)
    (w := shapeCast S1x16 w shapeCasts_S16_S1x16) (Mk := Finset.univ)
    (hx := View.stores_vmem_bits_univ h_S1x16 rfl) (hm := .inl rfl) (k := k) (S := s) (f := f) (Γ := []) hs
  iintro Hb HQ
  iapply h $$ Hb
  iintro Hb
  iapply HQ $$ %_ [] [Hb]
  · ipureintro
    exact good_store (F := F) j n hj hn A f off inb hoff hf o ho ho' w hw shapeCasts_S16_S1x16
  · iexact Hb

/-- A load of a group of a list, whatever it reads. -/
theorem wp_drop {α : Type} {Q : α → sProp 𝕄} (s : Finset S2x128.Idx) (f : S2x128.Idx → BitVec 32)
    (off : Fin 2 → ℕ) (inb : ∀ a, off a + S1x16.size a ≤ S2x128.size a)
    (hs : (bV.access (Rect.unit (s := S2x128) off S1x16.size inb)).set ⊆ s)
    {k : Vec F S1x16 .i32 → Prog (TpuEff nD τ sig (Elt F) Λ₀ (.scVector (coreOf L) (subOf L))) α} :
    bPts (F := F) d L s f
      ⊢ iprop((∀ v, bPts (F := F) d L s f -∗ wp frame (wpE (defs₀ (F := F)) 𝒱₀ (me d L) none) Set.univ (k v) Q)
        -∗ wp frame (wpE (defs₀ (F := F)) 𝒱₀ (me d L) none) Set.univ
            (Prog.lift (TpuEff.load bV (Rect.unit (s := S2x128) off S1x16.size inb).toLoadRect (View.loadsAt_vmem h_S1x16)) >>= k) Q) := by
  simp only [Prog.lift, Prog.bind_op, Prog.bind_ret]
  have h := wp_load_rect (defs := defs₀ (F := F)) (Q := Q) 𝒱₀ (me d L) none Set.univ (m := bV) (r := Rect.unit (s := S2x128) off S1x16.size inb)
    (hl := View.loadsAt_vmem h_S1x16) (k := k) (S := s) (f := f) (q := fullShare) (Γ := []) hs
  iintro Hb HQ
  iapply h $$ Hb
  iintro Hb
  iapply HQ $$ %_ Hb

end Cert.Proof.Rope

end
-- ==== Proof.Moves.lean ====
/-
  A tile's transfers as rules: a copy started, a copy waited for, a fetch of the rows a list names
  started and waited for; and what each delivers, in values.
-/
module

public import proofs.«01_k».proof.Proof.Steps

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The two cells of the row fetches, and of the write-outs. -/
abbrev gsem0 : DmaSem sig := ((cc0_scratch3.slice (Rect.unit (s := S2) ![0] S1.size inb_S2_S1_0)).squeeze S_ squeezes_S1_S_).sem
abbrev gsem1 : DmaSem sig := ((cc0_scratch3.slice (Rect.unit (s := S2) ![1] S1.size inb_S2_S1_1)).squeeze S_ squeezes_S1_S_).sem
abbrev ssem0 : DmaSem sig := ((cc0_scratch4.slice (Rect.unit (s := S2) ![0] S1.size inb_S2_S1_0)).squeeze S_ squeezes_S1_S_).sem
abbrev ssem1 : DmaSem sig := ((cc0_scratch4.slice (Rect.unit (s := S2) ![1] S1.size inb_S2_S1_1)).squeeze S_ squeezes_S1_S_).sem

variable (d : Dev nD) (L : grid0.Coords)

/-- The tile's row of positions, the table at a share, parts of the slabs and of the result, as the tile holds them. -/
abbrev pRow (f : S32x512.Idx → BitVec 32) : sProp 𝕄 :=
  (pRowK L).view.loc (me d L) ↦[(pRowK L).view.set]{fullShare} (show Buf (Elt F) ((pRowK L).view.loc (me d L)) from f)
abbrev tAll (q : PosShare TreeShare) (f : S8192x128.Idx → BitVec 32) : sProp 𝕄 :=
  tAllK.view.loc (me d L) ↦[tAllK.view.set]{q} (show Buf (Elt F) (tAllK.view.loc (me d L)) from f)
abbrev cPts (s : Finset S2x128x128.Idx) (f : S2x128x128.Idx → BitVec 32) : sProp 𝕄 :=
  cV.view.loc (me d L) ↦[s]{fullShare} (show Buf (Elt F) (cV.view.loc (me d L)) from f)
abbrev oPart (s : Finset S8192x128.Idx) (f : S8192x128.Idx → BitVec 32) : sProp 𝕄 :=
  oV.view.loc (me d L) ↦[s]{fullShare} (show Buf (Elt F) (oV.view.loc (me d L)) from f)

/-- A copy started. -/
theorem wp_send {α : Type} {Q : α → sProp 𝕄} {sp sp' : Space} {s : Shape} {e : EltTy} (src : Memref sig .scVector sp s e) (dst : Memref sig .scVector sp' s e)
    (sem : DmaSem sig) (q : PosShare TreeShare) (fs : Buf (Elt F) (src.view.loc (me d L))) (fd : Buf (Elt F) (dst.view.loc (me d L)))
    (hN : 0 < dst.view.amount (SemLoc.dma sem))
    {hsrc : src.view.WordExact} {hdst : dst.view.WordExact} {hsem : DmaTarget.Typed (nD := nD) sp (SemLoc.dma sem) (.here (p := Proc.scVector (coreOf L) (subOf L)) dst)}
    {k : PUnit → Prog (TpuEff nD τ sig (Elt F) Λ₀ (.scVector (coreOf L) (subOf L))) α} :
    iprop((src.view.loc (me d L) ↦[src.view.set]{q} fs) ∗ (dst.view.loc (me d L) ↦[dst.view.set]{fullShare} fd) ∗ semVal (me d L, SemLoc.dma sem) 0)
      ⊢ iprop((Transfers.Flight countersEmb (me d L) (SemLoc.dma sem) (default : HIx 1) (dst.view.amount (SemLoc.dma sem))
            iprop((dst.view.loc (me d L) ↦[dst.view.set]{fullShare} (dst.view.write (Elt F) fd (src.view.read (Elt F) fs) Finset.univ))
              ∗ (src.view.loc (me d L) ↦[src.view.set]{q} fs))
          -∗ wp frame (wpE (defs₀ (F := F)) 𝒱₀ (me d L) none) Set.univ (k ⟨⟩) Q)
        -∗ wp frame (wpE (defs₀ (F := F)) 𝒱₀ (me d L) none) Set.univ
            (Prog.lift (TpuEff.enqueueDma src (.here (p := Proc.scVector (coreOf L) (subOf L)) dst) (SemLoc.dma sem) hsrc hdst hsem) >>= k) Q) := by
  have h := Transfers.wp_dmaLocal countersEmb 𝒱₀ (me d L) none (defs := defs₀ (F := F)) (Q := Q) (src := src) (via := ReadAs.same) (dst := dst)
    (sm := SemLoc.dma sem) (hsrc := hsrc) (hdst := hdst) (hsem := hsem)
    (k := k) (q := q) (fs := fs) (Sd := dst.view.set) (fd := fd) (default : HIx 1) _ rfl hN (Finset.Subset.refl _)
  exact h

/-- A copy waited for. -/
theorem wp_recv {α : Type} {Q : α → sProp 𝕄} {sp sp' : Space} {s : Shape} {e : EltTy} (sem : DmaSem sig) (src : Memref sig .scVector sp s e) (dst : Memref sig .scVector sp' s e)
    {hsrc : src.view.WordExact} {hdst : dst.view.WordExact} {D : sProp 𝕄} {O : CellTallies nD τ sig (HIx 1)} {W : Waits sig (HIx 1)}
    {k : PUnit → Prog (TpuEff nD τ sig (Elt F) Λ₀ (.scVector (coreOf L) (subOf L))) α} :
    iprop(Transfers.Flight countersEmb (me d L) (SemLoc.dma sem) (default : HIx 1) (dst.view.amount (SemLoc.dma sem)) D
        ∗ owes (me d L) O W ∗ Transfers.MayWaits (me d L) (default : HIx 1) O)
      ⊢ iprop((iprop(D ∗ semVal (me d L, SemLoc.dma sem) 0 ∗ owes (me d L) O (insert (SemLoc.dma sem, default) W))
          -∗ wp frame (wpE (defs₀ (F := F)) 𝒱₀ (me d L) none) Set.univ (k ⟨⟩) Q)
        -∗ wp frame (wpE (defs₀ (F := F)) 𝒱₀ (me d L) none) Set.univ
            (Prog.lift (TpuEff.waitDma2 sem src dst hsrc hdst) >>= k) Q) := by
  have h := Transfers.wp_waitLocalO countersEmb 𝒱₀ (me d L) none (defs := defs₀ (F := F)) (Q := Q) (sem := sem) (srcw := src) (dstw := dst) (hsrc := hsrc) (hdst := hdst)
    (k := k) (default : HIx 1) (rfl : dst.view.dmaCredit = _) (D := D) (O := O) (W := W)
  iintro ⟨Hfl, HO, Hmw⟩
  iapply h
  isplitl [Hfl]; · iexact Hfl
  isplitl [HO]; · iexact HO
  iapply (Transfers.MayWaits.elim (SemLoc.dma sem)) $$ Hmw

/-- A row fetch waited for. -/
theorem wp_gotten {α : Type} {Q : α → sProp 𝕄} {sp : Space} {s s' : Shape} {e e' : EltTy} (sem : DmaSem sig) (src : Memref sig .scVector sp s' e') (dst : Memref sig .scVector .vmem s e)
    {hsrc : src.view.WordExact} {hdst : dst.view.WordExact} {D : sProp 𝕄} {O : CellTallies nD τ sig (HIx 1)} {W : Waits sig (HIx 1)}
    {k : PUnit → Prog (TpuEff nD τ sig (Elt F) Λ₀ (.scVector (coreOf L) (subOf L))) α} :
    iprop(Transfers.Flight countersEmb (me d L) (SemLoc.dma sem) (default : HIx 1) dst.view.dmaCredit D
        ∗ owes (me d L) O W ∗ Transfers.MayWaits (me d L) (default : HIx 1) O)
      ⊢ iprop((iprop(D ∗ semVal (me d L, SemLoc.dma sem) 0 ∗ owes (me d L) O (insert (SemLoc.dma sem, default) W))
          -∗ wp frame (wpE (defs₀ (F := F)) 𝒱₀ (me d L) none) Set.univ (k ⟨⟩) Q)
        -∗ wp frame (wpE (defs₀ (F := F)) 𝒱₀ (me d L) none) Set.univ
            (SparseCore.waitIndirectGather sem src dst hsrc hdst >>= k) Q) := by
  have h := Transfers.wp_waitLocalO countersEmb 𝒱₀ (me d L) none (defs := defs₀ (F := F)) (Q := Q) (sem := sem) (srcw := src) (dstw := dst) (hsrc := hsrc) (hdst := hdst)
    (k := k) (default : HIx 1) (rfl : dst.view.dmaCredit = _) (D := D) (O := O) (W := W)
  iintro ⟨Hfl, HO, Hmw⟩
  iapply h
  isplitl [Hfl]; · iexact Hfl
  isplitl [HO]; · iexact HO
  iapply (Transfers.MayWaits.elim (SemLoc.dma sem)) $$ Hmw

/-- The rows a list names, read of the table. -/
abbrev rowsOf (lst : Memref sig .scVector .vmem S128 .i32) (TTd : S8192x128.Idx → BitVec 32) (fo : Buf (Elt F) (lst.view.loc (me d L)))
    (hin : ∀ x, (lst.view.read (Elt F) fo x).toNat < S8192x128.size gathers_S8192x128_S128x128.axis) : S128x128.Idx → BitVec 32 :=
  SparseCore.gatherPayload (F := F) (e := .i32) gathers_S8192x128_S128x128 (tAllK.view.read (Elt F) TTd)
    (SparseCore.rows (F := F) (lst.view.read (Elt F) fo) (rfl : S128.numel = S128x128.size gathers_S8192x128_S128x128.axis') hin)

/-- The fetch of the rows a list names started. -/
theorem wp_rows {α : Type} {Q : α → sProp 𝕄} (dst : Memref sig .scVector .vmem S128x128 .i32) (lst : Memref sig .scVector .vmem S128 .i32) (sem : DmaSem sig)
    (q : PosShare TreeShare) (TTd : S8192x128.Idx → BitVec 32) (fd : Buf (Elt F) (dst.view.loc (me d L))) (fo : Buf (Elt F) (lst.view.loc (me d L)))
    (hin : ∀ x, (lst.view.read (Elt F) fo x).toNat < S8192x128.size gathers_S8192x128_S128x128.axis)
    (hN : ∀ h : S8192x128.Gathers 0 S128x128, ∑ j, (dst.slice (S128x128.rowRect h.axis' j) (S128x128.stride_rowRect h.axis' j)).view.dmaCredit = dst.view.dmaCredit)
    {hp : Kind.scVector = Kind.scVector} {hsrc : tAllK.view.WordExact} {he : EltTy.i32.bits = 32} {hsp : Space.hbm = .hbm ∨ Space.hbm = .shared} {hr : S8192x128.StreamRows 0}
    {k : PUnit → Prog (TpuEff nD τ sig (Elt F) Λ₀ (.scVector (coreOf L) (subOf L))) α} :
    iprop(tAll (F := F) d L q TTd ∗ (dst.view.loc (me d L) ↦[dst.view.set]{fullShare} fd) ∗ (lst.view.loc (me d L) ↦[lst.view.set]{fullShare} fo)
        ∗ semVal (me d L, SemLoc.dma sem) 0)
      ⊢ iprop((Transfers.Flight countersEmb (me d L) (SemLoc.dma sem) (default : HIx 1) dst.view.dmaCredit
            iprop((dst.view.loc (me d L) ↦[dst.view.set]{fullShare} (dst.view.write (Elt F) fd (rowsOf (F := F) d L lst TTd fo hin) Finset.univ))
              ∗ tAll (F := F) d L q TTd ∗ (lst.view.loc (me d L) ↦[lst.view.set]{fullShare} fo))
          -∗ wp frame (wpE (defs₀ (F := F)) 𝒱₀ (me d L) none) Set.univ (k ⟨⟩) Q)
        -∗ wp frame (wpE (defs₀ (F := F)) 𝒱₀ (me d L) none) Set.univ
            (SparseCore.enqueueIndirectGather hp tAllK dst gathers_S8192x128_S128x128 lst rfl sem hsrc he hsp hr >>= k) Q) :=
  SparseCore.wp_indirectGatherLocal countersEmb 𝒱₀ (me d L) none (defs := defs₀ (F := F)) (Q := Q) (src := tAllK) (dst := dst) (offs := lst) (sem := sem)
    (hg := gathers_S8192x128_S128x128) (hn := rfl) (hp := hp) (hsrc := hsrc) (he := he) (hsp := hsp) (hr := hr) (k := k) (q := q) (qo := fullShare) (fs := TTd) (fd := fd) (fo := fo)
    (default : HIx 1) dst.view.dmaCredit (hN _) (by decide) hin

/-! ## What they deliver -/

theorem amount_aV : 0 < aV.view.amount (SemLoc.dma cc0_scoped0.sem) := by decide
theorem amount_oBlk0 : 0 < (oBlk0 L).view.amount (SemLoc.dma ssem0) := View.dmaCredit_pos _ (by decide)
theorem amount_oBlk1 : 0 < (oBlk1 L).view.amount (SemLoc.dma ssem1) := View.dmaCredit_pos _ (by decide)

/-- The fetched positions are the tile's row. -/
theorem fetched_ex (PPd : S32x512.Idx → BitVec 32) (fs : S512.Idx → BitVec 32) :
    (aV.view.loc (me d L) ↦[aV.view.set]{fullShare} (aV.view.write (Elt F) fs ((pRowK L).view.read (Elt F) PPd) Finset.univ) : sProp 𝕄)
      ⊢ ∃ A : S512.Idx → BitVec 32, ⌜∀ t : Fin 512, A (ix1 t) = PPd (ix2 (tileOf L) t)⌝ ∗ aPts (F := F) d L A := by
  rw [show aV.view.write (Elt F) fs ((pRowK L).view.read (Elt F) PPd) Finset.univ = (pRowK L).view.read (Elt F) PPd from View.write_whole_univ _ _ _,
    show aV.view.set = Finset.univ from View.set_whole _]
  iintro Ha
  iexists _
  isplitr
  swap; · iexact Ha
  ipureintro
  intro t
  exact ((View.read_apply _ _).trans (cast_eq _ _)).trans (congrArg PPd (pRowK_emb L t))

theorem read_tAllK (TTd : S8192x128.Idx → BitVec 32) : tAllK.view.read (Elt F) TTd = TTd := by
  funext x
  refine (View.read_apply _ _).trans ((cast_eq _ _).trans (congrArg TTd ?_))
  funext a
  apply Fin.ext
  match a with
  | 0 => show 0 + 1 * (x 0).val = (x 0).val; omega
  | 1 => show 0 + 1 * (x 1).val = (x 1).val; omega

theorem read_lst0 (f : S2x128.Idx → BitVec 32) (k : Fin 128) : lst0.view.read (Elt F) f (ix1 k) = f (ix2 (0 : Fin 2) k) :=
  ((View.read_apply _ _).trans (cast_eq _ _)).trans (congrArg f (lst0_emb k))
theorem read_lst1 (f : S2x128.Idx → BitVec 32) (k : Fin 128) : lst1.view.read (Elt F) f (ix1 k) = f (ix2 (1 : Fin 2) k) :=
  ((View.read_apply _ _).trans (cast_eq _ _)).trans (congrArg f (lst1_emb k))

theorem rows0_inb (PPd : S32x512.Idx → BitVec 32) (hpre : InTable PPd) (A : S512.Idx → BitVec 32) (hA : ∀ t : Fin 512, A (ix1 t) = PPd (ix2 (tileOf L) t))
    (f : S2x128.Idx → BitVec 32) (hf : Good 0 8 A f) : ∀ x, (lst0.view.read (Elt F) f x).toNat < S8192x128.size gathers_S8192x128_S128x128.axis := by
  intro x
  obtain ⟨k, rfl⟩ : ∃ k : Fin 128, x = ix1 k := ⟨x 0, eq_ix1 x⟩
  rw [read_lst0, good_row PPd (tileOf L) A hA 0 f hf k]
  exact row_lt PPd hpre _
theorem rows1_inb (PPd : S32x512.Idx → BitVec 32) (hpre : InTable PPd) (A : S512.Idx → BitVec 32) (hA : ∀ t : Fin 512, A (ix1 t) = PPd (ix2 (tileOf L) t))
    (f : S2x128.Idx → BitVec 32) (hf : Good 1 8 A f) : ∀ x, (lst1.view.read (Elt F) f x).toNat < S8192x128.size gathers_S8192x128_S128x128.axis := by
  intro x
  obtain ⟨k, rfl⟩ : ∃ k : Fin 128, x = ix1 k := ⟨x 0, eq_ix1 x⟩
  rw [read_lst1, good_row PPd (tileOf L) A hA 1 f hf k]
  exact row_lt PPd hpre _

/-- The two slabs, filled: their rows are the result's two blocks. -/
def Filled0 (TTd : S8192x128.Idx → BitVec 32) (PPd : S32x512.Idx → BitVec 32) (X : S2x128x128.Idx → BitVec 32) : Prop :=
  ∀ k l : Fin 128, X (ix3 (0 : Fin 2) k l) = gath TTd PPd (ix2 ⟨128 * (2 * (tileOf L).val + 0) + k.val, by have := (tileOf L).isLt; omega⟩ l)
def Filled1 (TTd : S8192x128.Idx → BitVec 32) (PPd : S32x512.Idx → BitVec 32) (X : S2x128x128.Idx → BitVec 32) : Prop :=
  ∀ k l : Fin 128, X (ix3 (1 : Fin 2) k l) = gath TTd PPd (ix2 ⟨128 * (2 * (tileOf L).val + 1) + k.val, by have := (tileOf L).isLt; omega⟩ l)

theorem filled0 (TTd : S8192x128.Idx → BitVec 32) (PPd : S32x512.Idx → BitVec 32) (hpre : InTable PPd) (A : S512.Idx → BitVec 32)
    (hA : ∀ t : Fin 512, A (ix1 t) = PPd (ix2 (tileOf L) t)) (f : S2x128.Idx → BitVec 32) (hf : Good 0 8 A f) (fd : S2x128x128.Idx → BitVec 32)
    (hin : ∀ x, (lst0.view.read (Elt F) f x).toNat < S8192x128.size gathers_S8192x128_S128x128.axis) :
    Filled0 L TTd PPd (slab0.view.write (Elt F) fd (rowsOf (F := F) d L lst0 TTd f hin) Finset.univ) := by
  intro k l
  rw [← slab0_emb k l]
  refine (View.write_emb_of_mem _ _ (Finset.mem_univ _)).trans ((cast_eq _ _).trans ?_)
  unfold rowsOf
  rw [read_tAllK]
  exact payload_eq (F := F) TTd PPd hpre (tileOf L) 0 _ (fun k => (read_lst0 f k).trans (good_row PPd (tileOf L) A hA 0 f hf k)) _ hin k l
theorem filled1 (TTd : S8192x128.Idx → BitVec 32) (PPd : S32x512.Idx → BitVec 32) (hpre : InTable PPd) (A : S512.Idx → BitVec 32)
    (hA : ∀ t : Fin 512, A (ix1 t) = PPd (ix2 (tileOf L) t)) (f : S2x128.Idx → BitVec 32) (hf : Good 1 8 A f) (fd : S2x128x128.Idx → BitVec 32)
    (hin : ∀ x, (lst1.view.read (Elt F) f x).toNat < S8192x128.size gathers_S8192x128_S128x128.axis) :
    Filled1 L TTd PPd (slab1.view.write (Elt F) fd (rowsOf (F := F) d L lst1 TTd f hin) Finset.univ) := by
  intro k l
  rw [← slab1_emb k l]
  refine (View.write_emb_of_mem _ _ (Finset.mem_univ _)).trans ((cast_eq _ _).trans ?_)
  unfold rowsOf
  rw [read_tAllK]
  exact payload_eq (F := F) TTd PPd hpre (tileOf L) 1 _ (fun k => (read_lst1 f k).trans (good_row PPd (tileOf L) A hA 1 f hf k)) _ hin k l

theorem lst1_sub : lst1.view.set ⊆ Finset.univ \ lst0.view.set := fun i hi =>
  Finset.mem_sdiff.mpr ⟨Finset.mem_univ _, fun h0 => Finset.disjoint_left.mp lst_disjoint h0 hi⟩
theorem slab1_sub : slab1.view.set ⊆ Finset.univ \ slab0.view.set := fun i hi =>
  Finset.mem_sdiff.mpr ⟨Finset.mem_univ _, fun h0 => Finset.disjoint_left.mp slab_disjoint h0 hi⟩

/-- A written-out block is the result's. -/
theorem out0 (TTd : S8192x128.Idx → BitVec 32) (PPd : S32x512.Idx → BitVec 32) (X : S2x128x128.Idx → BitVec 32) (hX : Filled0 L TTd PPd X) (o : S8192x128.Idx → BitVec 32) :
    ∀ i ∈ (oBlk0 L).view.set, (oBlk0 L).view.write (Elt F) o (slab0.view.read (Elt F) X) Finset.univ i = gath TTd PPd i := by
  intro i hi
  obtain ⟨x, -, rfl⟩ := Finset.mem_map.mp hi
  obtain ⟨k, l, rfl⟩ : ∃ k l : Fin 128, x = ix2 k l := ⟨x 0, x 1, eq_ix2 x⟩
  refine (View.write_emb_of_mem _ _ (Finset.mem_univ _)).trans ((cast_eq _ _).trans ?_)
  rw [oBlk0_emb]
  exact (((View.read_apply _ _).trans (cast_eq _ _)).trans (congrArg X (slab0_emb k l))).trans (hX k l)
theorem out1 (TTd : S8192x128.Idx → BitVec 32) (PPd : S32x512.Idx → BitVec 32) (X : S2x128x128.Idx → BitVec 32) (hX : Filled1 L TTd PPd X) (o : S8192x128.Idx → BitVec 32) :
    ∀ i ∈ (oBlk1 L).view.set, (oBlk1 L).view.write (Elt F) o (slab1.view.read (Elt F) X) Finset.univ i = gath TTd PPd i := by
  intro i hi
  obtain ⟨x, -, rfl⟩ := Finset.mem_map.mp hi
  obtain ⟨k, l, rfl⟩ : ∃ k l : Fin 128, x = ix2 k l := ⟨x 0, x 1, eq_ix2 x⟩
  refine (View.write_emb_of_mem _ _ (Finset.mem_univ _)).trans ((cast_eq _ _).trans ?_)
  rw [oBlk1_emb]
  exact (((View.read_apply _ _).trans (cast_eq _ _)).trans (congrArg X (slab1_emb k l))).trans (hX k l)

end Cert.Proof.Rope

end
-- ==== Proof.Parts.lean ====
/-
  The parts of a tile's task: the fetch of its positions, the two lists of row numbers, the two
  row fetches and the two write-outs.
-/
module

public import proofs.«01_k».proof.Proof.Steps
public import proofs.«01_k».proof.Proof.Moves

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (d : Dev nD) (L : grid0.Coords)

/-- What a sixteen-lane step reads at an offset. -/
abbrev lanes (A : S512.Idx → BitVec 32) (o : ℕ) (ho : o < 481) : Vec F S16 .i32 :=
  loadIdx (F := F) (e := .i32) A ![laneIdx o] (laneIdx_inb o ho)

/-! The sixteen offsets are in range. -/
theorem q0 : 0 < 481 := by decide
theorem q32 : 32 < 481 := by decide
theorem q64 : 64 < 481 := by decide
theorem q96 : 96 < 481 := by decide
theorem q128 : 128 < 481 := by decide
theorem q160 : 160 < 481 := by decide
theorem q192 : 192 < 481 := by decide
theorem q224 : 224 < 481 := by decide
theorem q256 : 256 < 481 := by decide
theorem q288 : 288 < 481 := by decide
theorem q320 : 320 < 481 := by decide
theorem q352 : 352 < 481 := by decide
theorem q384 : 384 < 481 := by decide
theorem q416 : 416 < 481 := by decide
theorem q448 : 448 < 481 := by decide
theorem q480 : 480 < 481 := by decide

/-- A part's end. -/
theorem done {α : Type} {Q : α → sProp 𝕄} (a : α) : Q a ⊢ wp frame (wpE (defs₀ (F := F)) 𝒱₀ (me d L) none) Set.univ
    (pure a : Prog (TpuEff nD τ sig (Elt F) Λ₀ (.scVector (coreOf L) (subOf L))) α) Q := by
  rw [wp_pure]; exact fupd_intro

/-- A group of a list, as the set of places it is. -/
abbrev grp (off : Fin 2 → ℕ) (inb : ∀ a, off a + S1x16.size a ≤ S2x128.size a) : Finset S2x128.Idx :=
  (bV.access (Rect.unit (s := S2x128) off S1x16.size inb)).set
theorem grp_univ (off : Fin 2 → ℕ) (inb : ∀ a, off a + S1x16.size a ≤ S2x128.size a) : grp off inb ⊆ Finset.univ := Finset.subset_univ _
/-- What is held of the lists while the first is out with its row fetch. -/
abbrev rest1 : Finset S2x128.Idx := Finset.univ \ lst0.view.set
theorem grp_rest (o : ℕ) (inb : ∀ a, (![1, o] : Fin 2 → ℕ) a + S1x16.size a ≤ S2x128.size a) : grp ![1, o] inb ⊆ rest1 := by
  intro i hi
  refine Finset.mem_sdiff.mpr ⟨Finset.mem_univ _, fun h0 => ?_⟩
  obtain ⟨x, -, rfl⟩ := Finset.mem_map.mp h0
  obtain ⟨y, -, hy⟩ := Finset.mem_map.mp hi
  obtain ⟨k, rfl⟩ : ∃ k : Fin 128, x = ix1 k := ⟨x 0, eq_ix1 x⟩
  rw [lst0_emb] at hy
  have h : 1 + 1 * (y 0).val = 0 := congrArg Fin.val (congrFun hy 0)
  omega

theorem aPts_set (A : S512.Idx → BitVec 32) :
    aPts (F := F) d L A = aV.view.loc (me d L) ↦[aV.view.set]{fullShare} (show Buf (Elt F) (aV.view.loc (me d L)) from A) := by
  rw [show aV.view.set = Finset.univ from View.set_whole _]

/-- Part 1: the tile's positions fetched, the first two groups of the first list, and the load of the third. -/
theorem part1_wp {Q : (Σ' (_ : BitVec 32) (_ : IVec S16 32) (_ : Vec F S16 .i32), IVec S16 32) → sProp 𝕄} (PPd : S32x512.Idx → BitVec 32)
    (fs : S512.Idx → BitVec 32) (f : S2x128.Idx → BitVec 32) (O : CellTallies nD τ sig (HIx 1)) (W : Waits sig (HIx 1)) :
    iprop(pRow (F := F) d L PPd ∗ aPts (F := F) d L fs ∗ bPts (F := F) d L Finset.univ f ∗ semVal (me d L, SemLoc.dma cc0_scoped0.sem) 0
        ∗ owes (me d L) O W ∗ Transfers.MayWaits (me d L) (default : HIx 1) O
        ∗ (∀ (v2 : BitVec 32) (A : S512.Idx → BitVec 32) (f' : S2x128.Idx → BitVec 32), ⌜∀ t : Fin 512, A (ix1 t) = PPd (ix2 (tileOf L) t)⌝ -∗ ⌜Good 0 2 A f'⌝
            -∗ pRow (F := F) d L PPd -∗ aPts (F := F) d L A -∗ bPts (F := F) d L Finset.univ f' -∗ semVal (me d L, SemLoc.dma cc0_scoped0.sem) 0
            -∗ owes (me d L) O (insert (SemLoc.dma cc0_scoped0.sem, default) W) -∗ Q ⟨v2, k0_pay1, lanes A 64 q64, k0_pay7⟩))
      ⊢ wp frame (wpE (defs₀ (F := F)) 𝒱₀ (me d L) none) Set.univ (k0_part1 L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0) Q := by
  rw [k0_part1_eq_skeleton]; unfold k0_part1_skel
  iintro ⟨Hp, Ha, Hb, Hv, HO, Hmw, HQ⟩
  ihave Ha := (Entails.of_eq (aPts_set (F := F) d L fs)) $$ Ha
  iapply wp_send d L (pRowK L) aV cc0_scoped0.sem fullShare PPd fs amount_aV $$ [Hp Ha Hv]
  · isplitl [Hp]; · iexact Hp
    isplitl [Ha]; · iexact Ha
    iexact Hv
  iintro Hfl
  iapply wp_recv d L cc0_scoped0.sem (pRowK L) aV $$ [Hfl HO Hmw]
  · isplitl [Hfl]; · iexact Hfl
    isplitl [HO]; · iexact HO
    iexact Hmw
  iintro ⟨⟨Ha, Hp⟩, Hv, HO⟩
  ihave Ha := (fetched_ex (F := F) d L PPd fs) $$ Ha
  icases Ha with ⟨%A, %hA, Ha⟩
  iapply wp_idx d L A 0 q0 k0_pay2 rfl (k0_idx1_inb _) (laneIdx_inb 0 q0) $$ Ha
  iintro Ha
  iapply wp_drop d L Finset.univ f ![0, 0] inb_S2x128_S1x16_0_0 (grp_univ _ _) $$ Hb
  iintro %_ Hb
  iapply wp_put d L Finset.univ 0 0 (by decide) (by decide) A f (good_zero 0 A f) 0 q0 rfl ![0, 0] inb_S2x128_S1x16_0_0 rfl (grp_univ _ _)
    (k0_pay3 (lanes A 0 q0)) rfl $$ Hb
  iintro %f %hf Hb
  iapply wp_idx d L A 32 q32 k0_pay4 rfl (k0_idx2_inb _) (laneIdx_inb 32 q32) $$ Ha
  iintro Ha
  iapply wp_drop d L Finset.univ f ![0, 16] inb_S2x128_S1x16_0_16 (grp_univ _ _) $$ Hb
  iintro %_ Hb
  iapply wp_put d L Finset.univ 0 1 (by decide) (by decide) A f hf 32 q32 rfl ![0, 16] inb_S2x128_S1x16_0_16 rfl (grp_univ _ _)
    (k0_pay5 (lanes A 32 q32)) rfl $$ Hb
  iintro %f %hf Hb
  iapply wp_idx d L A 64 q64 k0_pay6 rfl (k0_idx3_inb _) (laneIdx_inb 64 q64) $$ Ha
  iintro Ha
  iapply done d L _
  iapply HQ $$ %_ %A %f %hA %hf Hp Ha Hb Hv HO

/-- Part 2: the third to the sixth group of the first list, and the load of the seventh. -/
theorem part2_wp {Q : IVec S16 32 → sProp 𝕄} (A : S512.Idx → BitVec 32) (f : S2x128.Idx → BitVec 32) (hf : Good 0 2 A f) :
    iprop(aPts (F := F) d L A ∗ bPts (F := F) d L Finset.univ f
        ∗ (∀ f' : S2x128.Idx → BitVec 32, ⌜Good 0 6 A f'⌝ -∗ aPts (F := F) d L A -∗ bPts (F := F) d L Finset.univ f' -∗ Q (halved (F := F) A 192 q192)))
      ⊢ wp frame (wpE (defs₀ (F := F)) 𝒱₀ (me d L) none) Set.univ (k0_part2 L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0
            k0_pay1 (lanes A 64 q64) k0_pay7) Q := by
  rw [k0_part2_eq_skeleton]; unfold k0_part2_skel
  iintro ⟨Ha, Hb, HQ⟩
  iapply wp_drop d L Finset.univ f ![0, 32] inb_S2x128_S1x16_0_32 (grp_univ _ _) $$ Hb
  iintro %_ Hb
  iapply wp_put d L Finset.univ 0 2 (by decide) (by decide) A f hf 64 q64 rfl ![0, 32] inb_S2x128_S1x16_0_32 rfl (grp_univ _ _)
    (k0_pay8 (lanes A 64 q64) k0_pay7) rfl $$ Hb
  iintro %f %hf Hb
  iapply wp_idx d L A 96 q96 (k0_pay9 k0_pay1) rfl (k0_idx4_inb _) (laneIdx_inb 96 q96) $$ Ha
  iintro Ha
  iapply wp_drop d L Finset.univ f ![0, 48] inb_S2x128_S1x16_0_48 (grp_univ _ _) $$ Hb
  iintro %_ Hb
  iapply wp_put d L Finset.univ 0 3 (by decide) (by decide) A f hf 96 q96 rfl ![0, 48] inb_S2x128_S1x16_0_48 rfl (grp_univ _ _)
    (k0_pay10 (lanes A 96 q96)) rfl $$ Hb
  iintro %f %hf Hb
  iapply wp_idx d L A 128 q128 (k0_pay11 k0_pay1) rfl (k0_idx5_inb _) (laneIdx_inb 128 q128) $$ Ha
  iintro Ha
  iapply wp_drop d L Finset.univ f ![0, 64] inb_S2x128_S1x16_0_64 (grp_univ _ _) $$ Hb
  iintro %_ Hb
  iapply wp_put d L Finset.univ 0 4 (by decide) (by decide) A f hf 128 q128 rfl ![0, 64] inb_S2x128_S1x16_0_64 rfl (grp_univ _ _)
    (k0_pay12 (lanes A 128 q128)) rfl $$ Hb
  iintro %f %hf Hb
  iapply wp_idx d L A 160 q160 (k0_pay13 k0_pay1) rfl (k0_idx6_inb _) (laneIdx_inb 160 q160) $$ Ha
  iintro Ha
  iapply wp_drop d L Finset.univ f ![0, 80] inb_S2x128_S1x16_0_80 (grp_univ _ _) $$ Hb
  iintro %_ Hb
  iapply wp_put d L Finset.univ 0 5 (by decide) (by decide) A f hf 160 q160 rfl ![0, 80] inb_S2x128_S1x16_0_80 rfl (grp_univ _ _)
    (k0_pay14 (lanes A 160 q160)) rfl $$ Hb
  iintro %f %hf Hb
  iapply wp_idx d L A 192 q192 (k0_pay15 k0_pay1) rfl (k0_idx7_inb _) (laneIdx_inb 192 q192) $$ Ha
  iintro Ha
  iapply done d L _
  rw [show k0_pay16 (lanes A 192 q192) = halved (F := F) A 192 q192 from rfl]
  iapply HQ $$ %f %hf Ha Hb

/-- Part 3: the last two groups of the first list, its row fetch started, the first group of the second list, and the
    load of its second. -/
theorem part3_wp {Q : IVec S16 32 → sProp 𝕄} (TTd : S8192x128.Idx → BitVec 32) (PPd : S32x512.Idx → BitVec 32) (hpre : InTable PPd) (q : PosShare TreeShare)
    (A : S512.Idx → BitVec 32) (hA : ∀ t : Fin 512, A (ix1 t) = PPd (ix2 (tileOf L) t)) (f : S2x128.Idx → BitVec 32) (hf : Good 0 6 A f) (fd : S2x128x128.Idx → BitVec 32) :
    iprop(aPts (F := F) d L A ∗ bPts (F := F) d L Finset.univ f ∗ tAll (F := F) d L q TTd ∗ cPts (F := F) d L slab0.view.set fd
        ∗ semVal (me d L, SemLoc.dma gsem0) 0
        ∗ (∀ (f0 f' : S2x128.Idx → BitVec 32) (X : S2x128x128.Idx → BitVec 32), ⌜Good 1 1 A f'⌝ -∗ ⌜Filled0 L TTd PPd X⌝
            -∗ aPts (F := F) d L A -∗ bPts (F := F) d L rest1 f'
            -∗ Transfers.Flight countersEmb (me d L) (SemLoc.dma gsem0) (default : HIx 1) slab0.view.dmaCredit
                iprop(cPts (F := F) d L slab0.view.set X ∗ tAll (F := F) d L q TTd ∗ bPts (F := F) d L lst0.view.set f0)
            -∗ Q (halved (F := F) A 288 q288)))
      ⊢ wp frame (wpE (defs₀ (F := F)) 𝒱₀ (me d L) none) Set.univ (k0_part3 L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0
            k0_pay1 (halved (F := F) A 192 q192)) Q := by
  rw [k0_part3_eq_skeleton]; unfold k0_part3_skel
  iintro ⟨Ha, Hb, Ht, Hc, Hv, HQ⟩
  iapply wp_drop d L Finset.univ f ![0, 96] inb_S2x128_S1x16_0_96 (grp_univ _ _) $$ Hb
  iintro %_ Hb
  iapply wp_put d L Finset.univ 0 6 (by decide) (by decide) A f hf 192 q192 rfl ![0, 96] inb_S2x128_S1x16_0_96 rfl (grp_univ _ _)
    (halved (F := F) A 192 q192) rfl $$ Hb
  iintro %f %hf Hb
  iapply wp_idx d L A 224 q224 (k0_pay17 k0_pay1) rfl (k0_idx8_inb _) (laneIdx_inb 224 q224) $$ Ha
  iintro Ha
  iapply wp_drop d L Finset.univ f ![0, 112] inb_S2x128_S1x16_0_112 (grp_univ _ _) $$ Hb
  iintro %_ Hb
  iapply wp_put d L Finset.univ 0 7 (by decide) (by decide) A f hf 224 q224 rfl ![0, 112] inb_S2x128_S1x16_0_112 rfl (grp_univ _ _)
    (k0_pay18 (lanes A 224 q224)) rfl $$ Hb
  iintro %f %hf Hb
  ihave Hb := (pointsTo_split_subset (q := fullShare) (S := Finset.univ) (Finset.subset_univ lst0.view.set)).1 $$ Hb
  icases Hb with ⟨Hl, Hb⟩
  iapply wp_rows d L slab0 lst0 gsem0 q TTd fd f (rows0_inb L PPd hpre A hA f hf) (by decide) $$ [Ht Hc Hl Hv]
  · isplitl [Ht]; · iexact Ht
    isplitl [Hc]; · iexact Hc
    isplitl [Hl]; · iexact Hl
    iexact Hv
  iintro Hfl
  iapply wp_idx d L A 256 q256 (k0_pay19 k0_pay1) rfl (k0_idx9_inb _) (laneIdx_inb 256 q256) $$ Ha
  iintro Ha
  iapply wp_drop d L rest1 f ![1, 0] inb_S2x128_S1x16_1_0 (grp_rest 0 _) $$ Hb
  iintro %_ Hb
  iapply wp_put d L rest1 1 0 (by decide) (by decide) A f (good_zero 1 A f) 256 q256 rfl ![1, 0] inb_S2x128_S1x16_1_0 rfl (grp_rest 0 _)
    (k0_pay20 (lanes A 256 q256)) rfl $$ Hb
  iintro %f1 %hf1 Hb
  iapply wp_idx d L A 288 q288 (k0_pay21 k0_pay1) rfl (k0_idx10_inb _) (laneIdx_inb 288 q288) $$ Ha
  iintro Ha
  iapply wp_drop d L rest1 f1 ![1, 16] inb_S2x128_S1x16_1_16 (grp_rest 16 _) $$ Hb
  iintro %_ Hb
  iapply done d L _
  rw [show k0_pay22 (lanes A 288 q288) = halved (F := F) A 288 q288 from rfl]
  iapply HQ $$ %f %f1 %_ %hf1 [] Ha Hb Hfl
  ipureintro
  exact filled0 d L TTd PPd hpre A hA f hf fd _

/-- Part 4: the second to the sixth group of the second list. -/
theorem part4_wp {Q : IVec S16 32 → sProp 𝕄} (A : S512.Idx → BitVec 32) (f : S2x128.Idx → BitVec 32) (hf : Good 1 1 A f) :
    iprop(aPts (F := F) d L A ∗ bPts (F := F) d L rest1 f
        ∗ (∀ f' : S2x128.Idx → BitVec 32, ⌜Good 1 6 A f'⌝ -∗ aPts (F := F) d L A -∗ bPts (F := F) d L rest1 f' -∗ Q (k0_pay31 k0_pay1)))
      ⊢ wp frame (wpE (defs₀ (F := F)) 𝒱₀ (me d L) none) Set.univ (k0_part4 L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0
            k0_pay1 (halved (F := F) A 288 q288)) Q := by
  rw [k0_part4_eq_skeleton]; unfold k0_part4_skel
  iintro ⟨Ha, Hb, HQ⟩
  iapply wp_put d L rest1 1 1 (by decide) (by decide) A f hf 288 q288 rfl ![1, 16] inb_S2x128_S1x16_1_16 rfl (grp_rest 16 _)
    (halved (F := F) A 288 q288) rfl $$ Hb
  iintro %f %hf Hb
  iapply wp_idx d L A 320 q320 (k0_pay23 k0_pay1) rfl (k0_idx11_inb _) (laneIdx_inb 320 q320) $$ Ha
  iintro Ha
  iapply wp_drop d L rest1 f ![1, 32] inb_S2x128_S1x16_1_32 (grp_rest 32 _) $$ Hb
  iintro %_ Hb
  iapply wp_put d L rest1 1 2 (by decide) (by decide) A f hf 320 q320 rfl ![1, 32] inb_S2x128_S1x16_1_32 rfl (grp_rest 32 _)
    (k0_pay24 (lanes A 320 q320)) rfl $$ Hb
  iintro %f %hf Hb
  iapply wp_idx d L A 352 q352 (k0_pay25 k0_pay1) rfl (k0_idx12_inb _) (laneIdx_inb 352 q352) $$ Ha
  iintro Ha
  iapply wp_drop d L rest1 f ![1, 48] inb_S2x128_S1x16_1_48 (grp_rest 48 _) $$ Hb
  iintro %_ Hb
  iapply wp_put d L rest1 1 3 (by decide) (by decide) A f hf 352 q352 rfl ![1, 48] inb_S2x128_S1x16_1_48 rfl (grp_rest 48 _)
    (k0_pay26 (lanes A 352 q352)) rfl $$ Hb
  iintro %f %hf Hb
  iapply wp_idx d L A 384 q384 (k0_pay27 k0_pay1) rfl (k0_idx13_inb _) (laneIdx_inb 384 q384) $$ Ha
  iintro Ha
  iapply wp_drop d L rest1 f ![1, 64] inb_S2x128_S1x16_1_64 (grp_rest 64 _) $$ Hb
  iintro %_ Hb
  iapply wp_put d L rest1 1 4 (by decide) (by decide) A f hf 384 q384 rfl ![1, 64] inb_S2x128_S1x16_1_64 rfl (grp_rest 64 _)
    (k0_pay28 (lanes A 384 q384)) rfl $$ Hb
  iintro %f %hf Hb
  iapply wp_idx d L A 416 q416 (k0_pay29 k0_pay1) rfl (k0_idx14_inb _) (laneIdx_inb 416 q416) $$ Ha
  iintro Ha
  iapply wp_drop d L rest1 f ![1, 80] inb_S2x128_S1x16_1_80 (grp_rest 80 _) $$ Hb
  iintro %_ Hb
  iapply wp_put d L rest1 1 5 (by decide) (by decide) A f hf 416 q416 rfl ![1, 80] inb_S2x128_S1x16_1_80 rfl (grp_rest 80 _)
    (k0_pay30 (lanes A 416 q416)) rfl $$ Hb
  iintro %f %hf Hb
  iapply done d L _
  iapply HQ $$ %f %hf Ha Hb

/-- Part 5: the last two groups of the second list, its row fetch started, and the first row fetch waited for. -/
theorem part5_wp {Q : PUnit → sProp 𝕄} (TTd : S8192x128.Idx → BitVec 32) (PPd : S32x512.Idx → BitVec 32) (hpre : InTable PPd) (q : PosShare TreeShare) (v2 : BitVec 32)
    (A : S512.Idx → BitVec 32) (hA : ∀ t : Fin 512, A (ix1 t) = PPd (ix2 (tileOf L) t)) (f : S2x128.Idx → BitVec 32) (hf : Good 1 6 A f) (fd : S2x128x128.Idx → BitVec 32)
    (D : sProp 𝕄) (O : CellTallies nD τ sig (HIx 1)) (W : Waits sig (HIx 1)) :
    iprop(aPts (F := F) d L A ∗ bPts (F := F) d L rest1 f ∗ tAll (F := F) d L q TTd ∗ cPts (F := F) d L slab1.view.set fd
        ∗ semVal (me d L, SemLoc.dma gsem1) 0
        ∗ Transfers.Flight countersEmb (me d L) (SemLoc.dma gsem0) (default : HIx 1) slab0.view.dmaCredit D
        ∗ owes (me d L) O W ∗ Transfers.MayWaits (me d L) (default : HIx 1) O
        ∗ (∀ (f1 : S2x128.Idx → BitVec 32) (X : S2x128x128.Idx → BitVec 32), ⌜Filled1 L TTd PPd X⌝
            -∗ aPts (F := F) d L A -∗ bPts (F := F) d L (rest1 \ lst1.view.set) f1
            -∗ Transfers.Flight countersEmb (me d L) (SemLoc.dma gsem1) (default : HIx 1) slab1.view.dmaCredit
                iprop(cPts (F := F) d L slab1.view.set X ∗ tAll (F := F) d L q TTd ∗ bPts (F := F) d L lst1.view.set f1)
            -∗ D -∗ semVal (me d L, SemLoc.dma gsem0) 0 -∗ owes (me d L) O (insert (SemLoc.dma gsem0, default) W)
            -∗ Q ⟨⟩))
      ⊢ wp frame (wpE (defs₀ (F := F)) 𝒱₀ (me d L) none) Set.univ (k0_part5 L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0
            v2 k0_pay1 (k0_pay31 k0_pay1)) Q := by
  rw [k0_part5_eq_skeleton]; unfold k0_part5_skel
  iintro ⟨Ha, Hb, Ht, Hc, Hv, Hf0, HO, Hmw, HQ⟩
  iapply wp_idx d L A 448 q448 (k0_pay31 k0_pay1) rfl (k0_idx15_inb _) (laneIdx_inb 448 q448) $$ Ha
  iintro Ha
  iapply wp_drop d L rest1 f ![1, 96] inb_S2x128_S1x16_1_96 (grp_rest 96 _) $$ Hb
  iintro %_ Hb
  iapply wp_put d L rest1 1 6 (by decide) (by decide) A f hf 448 q448 rfl ![1, 96] inb_S2x128_S1x16_1_96 rfl (grp_rest 96 _)
    (k0_pay32 (lanes A 448 q448)) rfl $$ Hb
  iintro %f %hf Hb
  iapply wp_idx d L A 480 q480 (k0_pay33 k0_pay1) rfl (k0_idx16_inb _) (laneIdx_inb 480 q480) $$ Ha
  iintro Ha
  iapply wp_drop d L rest1 f ![1, 112] inb_S2x128_S1x16_1_112 (grp_rest 112 _) $$ Hb
  iintro %_ Hb
  iapply wp_put d L rest1 1 7 (by decide) (by decide) A f hf 480 q480 rfl ![1, 112] inb_S2x128_S1x16_1_112 rfl (grp_rest 112 _)
    (k0_pay34 (lanes A 480 q480)) rfl $$ Hb
  iintro %f %hf Hb
  ihave Hb := (pointsTo_split_subset (q := fullShare) (S := rest1) lst1_sub).1 $$ Hb
  icases Hb with ⟨Hl, Hb⟩
  iapply wp_rows d L slab1 lst1 gsem1 q TTd fd f (rows1_inb L PPd hpre A hA f hf) (by decide) $$ [Ht Hc Hl Hv]
  · isplitl [Ht]; · iexact Ht
    isplitl [Hc]; · iexact Hc
    isplitl [Hl]; · iexact Hl
    iexact Hv
  iintro Hfl
  iapply wp_gotten d L gsem0 tAllK slab0 $$ [Hf0 HO Hmw]
  · isplitl [Hf0]; · iexact Hf0
    isplitl [HO]; · iexact HO
    iexact Hmw
  iintro ⟨HD, Hv, HO⟩
  iapply done d L _
  iapply HQ $$ %f %_ [] Ha Hb Hfl HD Hv HO
  ipureintro
  exact filled1 d L TTd PPd hpre A hA f hf fd _

/-- Part 6: the first write-out started, the second row fetch waited for, the second write-out started. -/
theorem part6_wp {Q : PUnit → sProp 𝕄} (v2 : BitVec 32) (X0 X1 : S2x128x128.Idx → BitVec 32) (o0 o1 : S8192x128.Idx → BitVec 32)
    (D : sProp 𝕄) (O : CellTallies nD τ sig (HIx 1)) (W : Waits sig (HIx 1)) :
    iprop(cPts (F := F) d L slab0.view.set X0 ∗ oPart (F := F) d L (oBlk0 L).view.set o0 ∗ oPart (F := F) d L (oBlk1 L).view.set o1
        ∗ semVal (me d L, SemLoc.dma ssem0) 0 ∗ semVal (me d L, SemLoc.dma ssem1) 0
        ∗ Transfers.Flight countersEmb (me d L) (SemLoc.dma gsem1) (default : HIx 1) slab1.view.dmaCredit
            iprop(cPts (F := F) d L slab1.view.set X1 ∗ D)
        ∗ owes (me d L) O W ∗ Transfers.MayWaits (me d L) (default : HIx 1) O
        ∗ (D -∗ semVal (me d L, SemLoc.dma gsem1) 0
            -∗ Transfers.Flight countersEmb (me d L) (SemLoc.dma ssem0) (default : HIx 1) ((oBlk0 L).view.amount (.dma ssem0))
                iprop(oPart (F := F) d L (oBlk0 L).view.set ((oBlk0 L).view.write (Elt F) o0 (slab0.view.read (Elt F) X0) Finset.univ)
                  ∗ cPts (F := F) d L slab0.view.set X0)
            -∗ Transfers.Flight countersEmb (me d L) (SemLoc.dma ssem1) (default : HIx 1) ((oBlk1 L).view.amount (.dma ssem1))
                iprop(oPart (F := F) d L (oBlk1 L).view.set ((oBlk1 L).view.write (Elt F) o1 (slab1.view.read (Elt F) X1) Finset.univ)
                  ∗ cPts (F := F) d L slab1.view.set X1)
            -∗ owes (me d L) O (insert (SemLoc.dma gsem1, default) W)
            -∗ Q ⟨⟩))
      ⊢ wp frame (wpE (defs₀ (F := F)) 𝒱₀ (me d L) none) Set.univ (k0_part6 L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0 v2) Q := by
  rw [k0_part6_eq_skeleton]; unfold k0_part6_skel
  iintro ⟨Hc, Ho0, Ho1, Hv0, Hv1, Hf1, HO, Hmw, HQ⟩
  iapply wp_send d L slab0 (oBlk0 L) ssem0 fullShare X0 o0 (amount_oBlk0 L) $$ [Hc Ho0 Hv0]
  · isplitl [Hc]; · iexact Hc
    isplitl [Ho0]; · iexact Ho0
    iexact Hv0
  iintro Hs0
  iapply wp_gotten d L gsem1 tAllK slab1 $$ [Hf1 HO Hmw]
  · isplitl [Hf1]; · iexact Hf1
    isplitl [HO]; · iexact HO
    iexact Hmw
  iintro ⟨⟨Hc1, HD⟩, Hv, HO⟩
  iapply wp_send d L slab1 (oBlk1 L) ssem1 fullShare X1 o1 (amount_oBlk1 L) $$ [Hc1 Ho1 Hv1]
  · isplitl [Hc1]; · iexact Hc1
    isplitl [Ho1]; · iexact Ho1
    iexact Hv1
  iintro Hs1
  iapply done d L _
  iapply HQ $$ HD Hv Hs0 Hs1 HO

end Cert.Proof.Rope

end
-- ==== Proof.Tile.lean ====
/-
  A tile's task whole, and the launch's obligation for it: from its row of positions, its share of
  the table and its two blocks of the result, the blocks come back holding the table's rows its
  positions name.
-/
module

public import proofs.«01_k».proof.Proof.Parts

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (TT : (d : Dev nD) → Buf (Elt F) (tLoc d)) (PP : (d : Dev nD) → Buf (Elt F) (pLoc d)) (O0 : (d : Dev nD) → Buf (Elt F) (oLoc d))

section Tile

variable (d : Dev nD) (L : grid0.Coords)

/-! ## What the handshake hands over, as the tile holds it -/

theorem pts_pRow (f : Buf (Elt F) (pLoc d)) : (pLoc d ↦[pSet (tileOf L)]{fullShare} f : sProp 𝕄) = pRow (F := F) d L f := by
  rw [← set_pRowK]
theorem pts_o0 (f : Buf (Elt F) (oLoc d)) : oPts (F := F) d (blk (tileOf L) 0) f = oPart (F := F) d L (oBlk0 L).view.set f := by
  rw [set_oBlk0]
theorem pts_o1 (f : Buf (Elt F) (oLoc d)) : oPts (F := F) d (blk (tileOf L) 1) f = oPart (F := F) d L (oBlk1 L).view.set f := by
  rw [set_oBlk1]
theorem set_tAllK : tAllK.view.set = (Finset.univ : Finset S8192x128.Idx) := by
  refine Finset.eq_univ_of_forall fun i => Finset.mem_map.mpr ⟨i, Finset.mem_univ _, ?_⟩
  funext a
  apply Fin.ext
  match a with
  | 0 => show 0 + 1 * (i 0).val = (i 0).val; omega
  | 1 => show 0 + 1 * (i 1).val = (i 1).val; omega
theorem pts_t (q : PosShare TreeShare) (f : Buf (Elt F) (tLoc d)) : (tLoc d ↦{q} f : sProp 𝕄) = tAll (F := F) d L q f := by
  unfold tAll; rw [set_tAllK]

abbrev cell (sem : DmaSem sig) : GSem nD τ sig := (me d L, SemLoc.dma sem)

theorem cell_mem (sem : DmaSem sig) (h : (SemLoc.dma sem : SemLoc sig).isScoped .scVector = true) : cell d L sem ∈ ownCells (me d L) :=
  (mem_ownCells (g := cell d L sem)).mpr ⟨rfl, h⟩
theorem cell_ne {s s' : DmaSem sig} (h : (SemLoc.dma s : SemLoc sig) ≠ SemLoc.dma s') : cell d L s ≠ cell d L s' := fun e => h (congrArg Prod.snd e)

/-- The five cells of the task are among the tile's own. -/
theorem ownSems0_V :
    (ownSems0 (me d L) : sProp 𝕄)
      = iprop(semVal (cell d L cc0_scoped0.sem) 0 ∗ semVal (cell d L gsem0) 0 ∗ semVal (cell d L gsem1) 0
          ∗ semVal (cell d L ssem0) 0 ∗ semVal (cell d L ssem1) 0
          ∗ bigSep ((((((ownCells (me d L)).erase (cell d L cc0_scoped0.sem)).erase (cell d L gsem0)).erase (cell d L gsem1)).erase (cell d L ssem0)).erase
              (cell d L ssem1)) fun g => semVal g 0) := by
  have m : ∀ {s s' : DmaSem sig} {A : Finset (GSem nD τ sig)}, cell d L s ∈ A → (SemLoc.dma s : SemLoc sig) ≠ SemLoc.dma s' → cell d L s ∈ A.erase (cell d L s') :=
    fun h hne => Finset.mem_erase.mpr ⟨cell_ne d L hne, h⟩
  unfold SparseCore.Cfg.ownSems0
  rw [SparseCore.bigSep_erase' (cell_mem d L cc0_scoped0.sem (by decide)),
    SparseCore.bigSep_erase' (m (cell_mem d L gsem0 (by decide)) (by decide)),
    SparseCore.bigSep_erase' (m (m (cell_mem d L gsem1 (by decide)) (by decide)) (by decide)),
    SparseCore.bigSep_erase' (m (m (m (cell_mem d L ssem0 (by decide)) (by decide)) (by decide)) (by decide)),
    SparseCore.bigSep_erase' (m (m (m (m (cell_mem d L ssem1 (by decide)) (by decide)) (by decide)) (by decide)) (by decide))]

abbrev bref (b : Ref sig .scVector) : DevRef τ sig := (Proc.scVector (coreOf L) (subOf L)).devRef b

/-- The three scratch buffers are among its own, at some contents. -/
theorem ownBufs_V :
    (ownBufs (me d L) : sProp 𝕄)
      = iprop((∃ f, aPts (F := F) d L f) ∗ (∃ f, bPts (F := F) d L Finset.univ f) ∗ (∃ f, cPts (F := F) d L Finset.univ f)
          ∗ bigSep ((((ownRefs (τ := τ) (.scVector (coreOf L) (subOf L))).erase (bref L cc0_scratch0)).erase (bref L cc0_scratch1)).erase (bref L cc0_scratch2))
              fun b => iprop(∃ f, ((d, b) : Loc nD τ sig) ↦{fullShare} f)) := by
  have ne : ∀ {b b' : Ref sig .scVector}, b ≠ b' → bref L b ≠ bref L b' := fun h e => h (Proc.devRef_injective _ e)
  have own : ∀ b : Ref sig .scVector, (bref L b).owner = Owner.proc (Proc.scVector (coreOf L) (subOf L)) → bref L b ∈ ownRefs (τ := τ) (.scVector (coreOf L) (subOf L)) :=
    fun b h => SparseCore.Cfg.mem_ownRefs_of_owner h
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]
  rfl

/-! ## The task -/

theorem tile_body (hF : (K (F := F)).Facts) (hpre : ∀ d, InTable (PP d)) (O : CellTallies nD τ sig (HIx 1)) (W : Waits sig (HIx 1)) (hO : ∀ g, O g none = 0) :
    iprop(levAts (K (F := F)).L (K (F := F)).lev ∗ emp ∗ goTile TT PP O0 d (tileOf L)
        ∗ scopedBufs (me d L) ∗ scopedSems0 (me d L) ∗ owes (me d L) O W)
      ⊢ wp frame (wpE (defs₀ (F := F)) 𝒱₀ (me d L) none) Set.univ
          (cc0_gather L tV (Memref.isWhole_whole _) pV (Memref.isWhole_whole _) oV (Memref.isWhole_whole _)
            aV (Memref.isWhole_whole _) bV (Memref.isWhole_whole _) cV (Memref.isWhole_whole _) cc0_scratch3 cc0_scratch4 cc0_scoped0)
          fun _ => iprop(tdTile TT PP d (tileOf L)
            ∗ scopedBufs (me d L) ∗ scopedSems0 (me d L)
            ∗ ∃ W', ⌜∀ p ∈ W', p ∈ W ∨ p.2 = none⌝ ∗ owes (me d L) O W') := by
  rw [cc0_gather_eq_skeleton]; unfold cc0_gather_skel
  rw [(K (F := F)).scopedBufs_V hF d (coreOf L) (subOf L), SparseCore.Cfg.scopedSems0_V (Val := Elt F) d (coreOf L) (subOf L), ownSems0_V, ownBufs_V]
  iintro ⟨#Hlv, -, ⟨Hp, Ht, Ho0, Ho1⟩, ⟨⟨%fa, Ha⟩, ⟨%fb, Hb⟩, ⟨%fc, Hc⟩, Hbufs⟩, ⟨Hsc, Hg0, Hg1, Hs0, Hs1, Hsems⟩, HO⟩
  ihave Hmw := (show levAts (K (F := F)).L (K (F := F)).lev ⊢ Transfers.MayWaits (me d L) (default : HIx 1) O from
    (K (F := F)).mayWaits_none (thr := me d L) hO) $$ Hlv
  icases Hmw with #Hmw
  ihave Hp := (Entails.of_eq (pts_pRow (F := F) d L _)) $$ Hp
  ihave Ho0 := (Entails.of_eq (pts_o0 (F := F) d L _)) $$ Ho0
  ihave Ho1 := (Entails.of_eq (pts_o1 (F := F) d L _)) $$ Ho1
  ihave Ht := (pointsTo_share (PosShare.mem_left_op_right (tq (tileOf L)))).1 $$ Ht
  icases Ht with ⟨Ht0, Ht1⟩
  ihave Ht0 := (Entails.of_eq (pts_t (F := F) d L _ _)) $$ Ht0
  ihave Ht1 := (Entails.of_eq (pts_t (F := F) d L _ _)) $$ Ht1
  ihave Hc := (pointsTo_split_subset (q := fullShare) (S := Finset.univ) (Finset.subset_univ slab0.view.set)).1 $$ Hc
  icases Hc with ⟨Hc0, Hc⟩
  ihave Hc := (pointsTo_split_subset (q := fullShare) (S := Finset.univ \ slab0.view.set) slab1_sub).1 $$ Hc
  icases Hc with ⟨Hc1, Hcr⟩
  -- the positions and the first two groups
  iapply (Entails.of_eq (Sem.wp_bind _ _ _ _ _ _).symm)
  iapply part1_wp d L (PP d) fa fb O W
  isplitl [Hp]; · iexact Hp
  isplitl [Ha]; · iexact Ha
  isplitl [Hb]; · iexact Hb
  isplitl [Hsc]; · iexact Hsc
  isplitl [HO]; · iexact HO
  isplitr; · iexact Hmw
  iintro %v2 %A %f %hA %hf Hp Ha Hb Hsc HO
  -- the first list
  iapply (Entails.of_eq (Sem.wp_bind _ _ _ _ _ _).symm)
  iapply part2_wp d L A f hf
  isplitl [Ha]; · iexact Ha
  isplitl [Hb]; · iexact Hb
  iintro %f %hf Ha Hb
  -- its fetch
  iapply (Entails.of_eq (Sem.wp_bind _ _ _ _ _ _).symm)
  iapply part3_wp d L (TT d) (PP d) (hpre d) (tq (tileOf L)).left A hA f hf fc
  isplitl [Ha]; · iexact Ha
  isplitl [Hb]; · iexact Hb
  isplitl [Ht0]; · iexact Ht0
  isplitl [Hc0]; · iexact Hc0
  isplitl [Hg0]; · iexact Hg0
  iintro %f0 %f %X0 %hf %hX0 Ha Hb Hfl0
  -- the second list
  iapply (Entails.of_eq (Sem.wp_bind _ _ _ _ _ _).symm)
  iapply part4_wp d L A f hf
  isplitl [Ha]; · iexact Ha
  isplitl [Hb]; · iexact Hb
  iintro %f %hf Ha Hb
  -- its fetch, and the first fetch's wait
  iapply (Entails.of_eq (Sem.wp_bind _ _ _ _ _ _).symm)
  iapply part5_wp d L (TT d) (PP d) (hpre d) (tq (tileOf L)).right v2 A hA f hf fc
  isplitl [Ha]; · iexact Ha
  isplitl [Hb]; · iexact Hb
  isplitl [Ht1]; · iexact Ht1
  isplitl [Hc1]; · iexact Hc1
  isplitl [Hg1]; · iexact Hg1
  isplitl [Hfl0]; · iexact Hfl0
  isplitl [HO]; · iexact HO
  isplitr; · iexact Hmw
  iintro %f1 %X1 %hX1 Ha Hb Hfl1 ⟨Hc0, Ht0, Hl0⟩ Hg0 HO
  -- the first write-out, the second fetch's wait, the second write-out
  iapply (Entails.of_eq (Sem.wp_bind _ _ _ _ _ _).symm)
  iapply part6_wp d L v2 X0 X1 (O0 d) (O0 d)
  isplitl [Hc0]; · iexact Hc0
  isplitl [Ho0]; · iexact Ho0
  isplitl [Ho1]; · iexact Ho1
  isplitl [Hs0]; · iexact Hs0
  isplitl [Hs1]; · iexact Hs1
  isplitl [Hfl1]; · iexact Hfl1
  isplitl [HO]; · iexact HO
  isplitr; · iexact Hmw
  iintro ⟨Ht1, Hl1⟩ Hg1 Hw0 Hw1 HO
  -- their waits
  iapply wp_recv d L ssem0 slab0 (oBlk0 L) $$ [Hw0 HO]
  · isplitl [Hw0]; · iexact Hw0
    isplitl [HO]; · iexact HO
    iexact Hmw
  iintro ⟨⟨Ho0, Hc0⟩, Hs0, HO⟩
  iapply wp_recv d L ssem1 slab1 (oBlk1 L) $$ [Hw1 HO]
  · isplitl [Hw1]; · iexact Hw1
    isplitl [HO]; · iexact HO
    iexact Hmw
  iintro ⟨⟨Ho1, Hc1⟩, Hs1, HO⟩
  iapply done d L _
  ihave Ho0 := (Entails.of_eq (pointsTo_congr (out0 L (TT d) (PP d) X0 hX0 (O0 d)))) $$ Ho0
  ihave Ho1 := (Entails.of_eq (pointsTo_congr (out1 L (TT d) (PP d) X1 hX1 (O0 d)))) $$ Ho1
  isplitl [Hp Ht0 Ht1 Ho0 Ho1]
  · isplitl [Hp]; · iapply (Entails.of_eq (pts_pRow (F := F) d L _).symm) $$ Hp
    isplitl [Ht0 Ht1]
    · iapply (pointsTo_share (PosShare.mem_left_op_right (tq (tileOf L)))).2
      isplitl [Ht0]
      · iapply (Entails.of_eq (pts_t (F := F) d L _ _).symm) $$ Ht0
      · iapply (Entails.of_eq (pts_t (F := F) d L _ _).symm) $$ Ht1
    isplitl [Ho0]
    · iapply (Entails.of_eq (pts_o0 (F := F) d L _).symm) $$ Ho0
    · iapply (Entails.of_eq (pts_o1 (F := F) d L _).symm) $$ Ho1
  isplitl [Ha Hb Hl0 Hl1 Hc0 Hc1 Hcr Hbufs]
  · isplitl [Ha]; · iexists _; iexact Ha
    isplitl [Hb Hl0 Hl1]
    · ihave Hb := (pointsTo_join_subset (ℓ := (me d L).loc cc0_scratch1) (q := fullShare) (S := rest1) lst1_sub) $$ [Hl1 Hb]
      · isplitl [Hl1]; · iexact Hl1
        iexact Hb
      ihave Hb := (pointsTo_join_subset (ℓ := (me d L).loc cc0_scratch1) (q := fullShare) (S := Finset.univ) (Finset.subset_univ lst0.view.set)) $$ [Hl0 Hb]
      · isplitl [Hl0]; · iexact Hl0
        iexact Hb
      iexists _; iexact Hb
    isplitl [Hc0 Hc1 Hcr]
    · ihave Hc := (pointsTo_join_subset (ℓ := (me d L).loc cc0_scratch2) (q := fullShare) (S := Finset.univ \ slab0.view.set) slab1_sub) $$ [Hc1 Hcr]
      · isplitl [Hc1]; · iexact Hc1
        iexact Hcr
      ihave Hc := (pointsTo_join_subset (ℓ := (me d L).loc cc0_scratch2) (q := fullShare) (S := Finset.univ) (Finset.subset_univ slab0.view.set)) $$ [Hc0 Hc]
      · isplitl [Hc0]; · iexact Hc0
        iexact Hc
      iexists _; iexact Hc
    iexact Hbufs
  isplitl [Hsc Hg0 Hg1 Hs0 Hs1 Hsems]
  · isplitl [Hsc]; · iexact Hsc
    isplitl [Hg0]; · iexact Hg0
    isplitl [Hg1]; · iexact Hg1
    isplitl [Hs0]; · iexact Hs0
    isplitl [Hs1]; · iexact Hs1
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Rope

end
-- ==== Proof.Call.lean ====
/-
  The SparseCore call whole: what the launch asks of the tiles' task and of the split of each
  SparseCore's share, and the three arrays of the call as the thirty-two tiles' parts.
-/
module

public import proofs.«01_k».proof.Proof.Tile

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (TT : (d : Dev nD) → Buf (Elt F) (tLoc d)) (PP : (d : Dev nD) → Buf (Elt F) (pLoc d)) (O0 : (d : Dev nD) → Buf (Elt F) (oLoc d))

/-! ## The obligation of a tile -/

/-- The grid's coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => (cc0_gather (coordsV c s) tV (Memref.isWhole_whole _) pV (Memref.isWhole_whole _) oV (Memref.isWhole_whole _)
            aV (Memref.isWhole_whole _) bV (Memref.isWhole_whole _) cV (Memref.isWhole_whole _) cc0_scratch3 cc0_scratch4 cc0_scoped0)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : ∀ d, InTable (PP d)) : (K (F := F)).TileObl (D (F := F)) 𝒱 (P TT PP O0) v₀ 0 := by
  intro d c i O W hO _ _
  simp only [show (P TT PP O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body TT PP O0 d (coordsV ⟨_, hci.1⟩ ⟨_, hci.2⟩) scFacts hpre O W hO).trans (wp_mono frame _ _ fun _ => obl_post)

/-! ## A SparseCore's share is its tiles' shares -/

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)

theorem vecSplit : (K (F := F)).VecSplit' (P TT PP O0) 0 := by
  intro d c
  show (bigSep Finset.univ fun i : Fin 16 => goTile TT PP O0 d (wid (Fin.cast nCore_eq c) i)) ⊢ |={Set.univ}=> iprop(
      (bigSep Finset.univ fun i : Fin ((K (F := F)).nSub 0) => goTile TT PP O0 d (wid (Fin.cast nCore_eq c) (Fin.cast nSub_eq i)))
      ∗ ((bigSep Finset.univ fun i : Fin ((K (F := F)).nSub 0) => tdTile TT PP d (wid (Fin.cast nCore_eq c) (Fin.cast nSub_eq i)))
          -∗ bigSep Finset.univ fun i : Fin 16 => tdTile TT PP d (wid (Fin.cast nCore_eq c) i)))
  rw [bigSep_tasks (F := F) (fun i => goTile TT PP O0 d (wid (Fin.cast nCore_eq c) i)),
    bigSep_tasks (F := F) (fun i => tdTile TT PP d (wid (Fin.cast nCore_eq c) i))]
  iintro H; imodintro
  isplitl [H]; · iexact H
  iintro H; iexact H

/-! ## The three arrays, in the tiles' parts -/

theorem pSet_eq (w : Fin 32) : pSet w = (prow w).set := by
  show ((View.whole (main_v33_scv : Ref sig .scVector)).slice (prow w)).set = _
  rw [View.set_slice]; exact Finset.map_refl
theorem oSet_eq (k : Fin 64) : oSet k = (oblk k).set := by
  show ((View.whole (main_v34_scv : Ref sig .scVector)).slice (oblk k)).set = _
  rw [View.set_slice]; exact Finset.map_refl
theorem pSet_disjoint : ∀ i ∈ (Finset.univ : Finset (Fin 32)), ∀ j ∈ (Finset.univ : Finset (Fin 32)), i ≠ j → Disjoint (pSet i) (pSet j) :=
  fun i _ j _ h => by rw [pSet_eq, pSet_eq]; exact Rect.part_disjoint pdiv h
theorem oSet_disjoint : ∀ i ∈ (Finset.univ : Finset (Fin 64)), ∀ j ∈ (Finset.univ : Finset (Fin 64)), i ≠ j → Disjoint (oSet i) (oSet j) :=
  fun i _ j _ h => by rw [oSet_eq, oSet_eq]; exact Rect.part_disjoint odiv h
theorem pSet_cover : (Finset.univ : Finset (Fin 32)).biUnion pSet = Finset.univ :=
  (Finset.biUnion_congr rfl fun i _ => pSet_eq i).trans (Rect.biUnion_part pdiv)
theorem oSet_cover : (Finset.univ : Finset (Fin 64)).biUnion oSet = Finset.univ :=
  (Finset.biUnion_congr rfl fun i _ => oSet_eq i).trans (Rect.biUnion_part odiv)

theorem p_rows (d : Dev nD) (f : Buf (Elt F) (pLoc d)) :
    (pLoc d ↦{fullShare} f : sProp 𝕄) = bigSep Finset.univ fun w : Fin 32 => pLoc d ↦[pSet w]{fullShare} f := by
  rw [← pointsTo_biUnion Finset.univ (ℓ := pLoc d) pSet pSet_disjoint, pSet_cover]; try rfl
theorem o_blocks (d : Dev nD) (f : Buf (Elt F) (oLoc d)) :
    (oLoc d ↦{fullShare} f : sProp 𝕄) = bigSep Finset.univ fun k : Fin 64 => oPts d k f := by
  rw [← pointsTo_biUnion Finset.univ (ℓ := oLoc d) oSet oSet_disjoint, oSet_cover]; try rfl
theorem t_shares (d : Dev nD) (f : Buf (Elt F) (tLoc d)) :
    (tLoc d ↦{fullShare} f : sProp 𝕄) = bigSep Finset.univ fun w : Fin 32 => tLoc d ↦{tq w} f :=
  Transfers.pointsTo_deal Finset.univ ⟨0, Finset.mem_univ _⟩ fullShare

theorem blk_eq (w : Fin 32) (r : Fin 2) : (finProdFinEquiv (w, r) : Fin 64) = blk w r := by
  apply Fin.ext; show r.val + 2 * w.val = 2 * w.val + r.val; omega
theorem wid_eq (i : Fin 16) (c : Fin 2) : (finProdFinEquiv (i, c) : Fin 32) = wid c i := by
  apply Fin.ext; show c.val + 2 * i.val = 2 * i.val + c.val; omega

theorem blocks_pairs (Φ : Fin 64 → sProp 𝕄) :
    bigSep Finset.univ Φ = bigSep Finset.univ fun w : Fin 32 => iprop(Φ (blk w 0) ∗ Φ (blk w 1)) := by
  rw [bigSep_univ_equiv (finProdFinEquiv : Fin 32 × Fin 2 ≃ Fin 64) Φ, bigSep_univ_prod]
  refine bigSep_congr fun w _ => ?_
  refine (bigSep_fin_two _).trans ?_
  show iprop(Φ (finProdFinEquiv (w, (0 : Fin 2))) ∗ Φ (finProdFinEquiv (w, (1 : Fin 2)))) = _
  rw [blk_eq, blk_eq]

theorem tiles_cores (Φ : Fin 32 → sProp 𝕄) :
    bigSep Finset.univ Φ = bigSep Finset.univ fun c : Fin 2 => bigSep Finset.univ fun i : Fin 16 => Φ (wid c i) := by
  rw [bigSep_univ_equiv ((Equiv.prodComm (Fin 2) (Fin 16)).trans (finProdFinEquiv : Fin 16 × Fin 2 ≃ Fin 32)) Φ, bigSep_univ_prod]
  exact bigSep_congr fun c _ => bigSep_congr fun i _ => congrArg Φ (wid_eq i c)

theorem arrays_tiles (d : Dev nD) (t : Buf (Elt F) (tLoc d)) (p : Buf (Elt F) (pLoc d)) (o : Buf (Elt F) (oLoc d)) :
    iprop((pLoc d ↦{fullShare} p) ∗ (tLoc d ↦{fullShare} t) ∗ oLoc d ↦{fullShare} o)
      = (bigSep Finset.univ fun c : Fin 2 => bigSep Finset.univ fun i : Fin 16 =>
          iprop((pLoc d ↦[pSet (wid c i)]{fullShare} p) ∗ (tLoc d ↦{tq (wid c i)} t) ∗ oPts d (blk (wid c i) 0) o ∗ oPts d (blk (wid c i) 1) o) : sProp 𝕄) := by
  rw [← tiles_cores (F := F) fun w => iprop((pLoc d ↦[pSet w]{fullShare} p) ∗ (tLoc d ↦{tq w} t) ∗ oPts d (blk w 0) o ∗ oPts d (blk w 1) o),
    bigSep_sep', bigSep_sep', ← blocks_pairs (F := F) fun k => oPts d k o, p_rows, t_shares, o_blocks]

theorem st0_eq (d : Dev nD) : (bigSep Finset.univ fun c : Fin ((K (F := F)).nCore 0) => (P TT PP O0).st 0 d c)
    = iprop((pLoc d ↦{fullShare} PP d) ∗ (tLoc d ↦{fullShare} TT d) ∗ oLoc d ↦{fullShare} O0 d) :=
  (arrays_tiles d (TT d) (PP d) (O0 d)).symm
theorem dn0_eq (d : Dev nD) : (bigSep Finset.univ fun c : Fin ((K (F := F)).nCore 0) => (P TT PP O0).dn 0 d c)
    = iprop((pLoc d ↦{fullShare} PP d) ∗ (tLoc d ↦{fullShare} TT d) ∗ oLoc d ↦{fullShare} G TT PP d) :=
  (arrays_tiles d (TT d) (PP d) (G TT PP d)).symm

end Cert.Proof.Rope

end
-- ==== Proof.Expand.lean ====
/-
  The TensorCore call's body: from a block of the packed table's rows it leaves, in each of the two
  results' blocks, the low halves (the cosines) and the high halves (the sines) of the words, each
  half row repeated.
-/
module

public import proofs.«01_k».proof.Proof.Call

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## What the body leaves -/

/-- The lane of a packed row that entry `(j, l)` of a result row reads. -/
def laneAt (j : Fin 2) (l : Fin 128) : Fin 128 := ⟨64 * j.val + l.val % 64, by have := j.isLt; have := Nat.mod_lt l.val (show 0 < 64 by decide); omega⟩

/-- The cosines (low halves) and sines (high halves) of packed rows. -/
def cosOf {n : ℕ} (x : (⟨2, ![n, 128]⟩ : Shape).Idx → BitVec 32) : (⟨3, ![n, 2, 128]⟩ : Shape).Idx → F .f32 :=
  fun i => FloatOps.ofBits .f32 (x (ix2 (i 0) (laneAt (i 1) (i 2))) <<< (16 : BitVec 32))
def sinOf {n : ℕ} (x : (⟨2, ![n, 128]⟩ : Shape).Idx → BitVec 32) : (⟨3, ![n, 2, 128]⟩ : Shape).Idx → F .f32 :=
  fun i => FloatOps.ofBits .f32 (x (ix2 (i 0) (laneAt (i 1) (i 2))) &&& 4294901760#32)

theorem cut_apply (o : ℕ) (x : S2048x128.Idx → BitVec 32) (j : Fin 2) (ho : o = 64 * j.val) (h : S2048x128.Slices ![0, o] S2048x64) (r : Fin 2048) (l : Fin 64) :
    extractStridedSlice S2048x64 ![0, o] (k1_pay1 (F := F) x) h (ix2 r l) = x (ix2 r (⟨64 * j.val + l.val, by have := j.isLt; omega⟩ : Fin 128)) := by
  unfold k1_pay1
  exact (slice2_axis1_apply o _ h r l (⟨64 * j.val + l.val, by have := j.isLt; omega⟩ : Fin 128) (by show 64 * j.val + l.val = o + l.val; omega)).trans (congrFun (shapeCast_self x _) _)

/-- A half row repeated and laid as a one-row block, at an entry. -/
theorem twice_apply {α : Type} (v : S2048x64.Idx → α) (hc : Shape.Concatenates [S2048x64, S2048x64] S2048x128 (1 : Fin 2)) (hs : S2048x128.ShapeCasts S2048x1x128)
    (y : S2048x1x128.Idx) :
    shapeCast S2048x1x128 (concatenate S2048x128 (1 : Fin 2) [⟨S2048x64, v⟩, ⟨S2048x64, v⟩] hc) hs y
      = v (ix2 (y 0) (⟨(y 2).val % 64, Nat.mod_lt _ (by decide)⟩ : Fin 64)) := by
  have h2 : (y 2).val < 128 := (y 2).isLt
  have h1 : (y 1).val < 1 := (y 1).isLt
  rw [shapeCast_apply _ hs y (ix2 (y 0) (y 2)) (by
    rw [Shape.rowMajor_val_two, Shape.rowMajor_val_three]
    show (y 0).val * 128 + (y 2).val = ((y 0).val * 1 + (y 1).val) * 128 + (y 2).val
    omega)]
  by_cases h : (y 2).val < 64
  · refine concatenate_pair_apply_left (t := S2048x128) (s₁ := S2048x64) (s₂ := S2048x64) (1 : Fin 2) v v hc _ rfl _ fun b => ?_
    fin_cases b
    · rfl
    · show (y 2).val % 64 = (y 2).val
      omega
  · refine concatenate_pair_apply_right (t := S2048x128) (s₁ := S2048x64) (s₂ := S2048x64) (1 : Fin 2) v v hc _ rfl rfl _ (fun b hb => ?_) ?_
    · fin_cases b
      · rfl
      · exact absurd rfl hb
    · show (y 2).val % 64 + 64 = (y 2).val
      omega

theorem pay2_apply (x : S2048x128.Idx → BitVec 32) (r : Fin 2048) (l : Fin 128) :
    k1_pay2 (F := F) x (ix2 r (⟨l.val % 64, Nat.mod_lt _ (by decide)⟩ : Fin 64)) = x (ix2 r (laneAt 0 l)) := by
  unfold k1_pay2
  exact cut_apply (F := F) 0 x 0 rfl _ r _

theorem pay3_apply (x : S2048x128.Idx → BitVec 32) (r : Fin 2048) (l : Fin 128) :
    k1_pay3 (F := F) x (ix2 r (⟨l.val % 64, Nat.mod_lt _ (by decide)⟩ : Fin 64)) = x (ix2 r (laneAt 1 l)) := by
  unfold k1_pay3
  exact cut_apply (F := F) 64 x 1 rfl _ r _

theorem pay4_apply (x : S2048x128.Idx → BitVec 32) (y : S2048x1x128.Idx) :
    k1_pay4 (F := F) x y = cosOf (F := F) (n := 2048) x (ix3 (y 0) 0 (y 2)) := by
  unfold k1_pay4
  refine (twice_apply _ _ _ y).trans ?_
  exact congrArg (fun z : BitVec 32 => FloatOps.ofBits (F := F) .f32 (z <<< (16 : BitVec 32))) (pay2_apply (F := F) x (y 0) (y 2))

theorem pay5_apply (x : S2048x128.Idx → BitVec 32) (y : S2048x1x128.Idx) :
    k1_pay5 (F := F) x y = cosOf (F := F) (n := 2048) x (ix3 (y 0) 1 (y 2)) := by
  unfold k1_pay5
  refine (twice_apply _ _ _ y).trans ?_
  exact congrArg (fun z : BitVec 32 => FloatOps.ofBits (F := F) .f32 (z <<< (16 : BitVec 32))) (pay3_apply (F := F) x (y 0) (y 2))

theorem pay6_apply (x : S2048x128.Idx → BitVec 32) (y : S2048x1x128.Idx) :
    k1_pay6 (F := F) x y = sinOf (F := F) (n := 2048) x (ix3 (y 0) 0 (y 2)) := by
  unfold k1_pay6
  refine (twice_apply _ _ _ y).trans ?_
  exact congrArg (fun z : BitVec 32 => FloatOps.ofBits (F := F) .f32 (z &&& 4294901760#32)) (pay2_apply (F := F) x (y 0) (y 2))

theorem pay7_apply (x : S2048x128.Idx → BitVec 32) (y : S2048x1x128.Idx) :
    k1_pay7 (F := F) x y = sinOf (F := F) (n := 2048) x (ix3 (y 0) 1 (y 2)) := by
  unfold k1_pay7
  refine (twice_apply _ _ _ y).trans ?_
  exact congrArg (fun z : BitVec 32 => FloatOps.ofBits (F := F) .f32 (z &&& 4294901760#32)) (pay3_apply (F := F) x (y 0) (y 2))

/-- Two one-row blocks written over a block leave it wholly so. -/
theorem rows_written {κ : Kind} {sp : Space} (v : View sig κ sp S2048x2x128 .f32) (f : v.ty.Contents (Elt F)) (Gv : S2048x2x128.Idx → F .f32)
    (p0 p1 : S2048x1x128.Idx → F .f32)
    (h0 : ∀ y, p0 y = Gv (ix3 (y 0) 0 (y 2))) (h1 : ∀ y, p1 y = Gv (ix3 (y 0) 1 (y 2)))
    (i0 : ∀ a, (![0, 0, 0] : Fin 3 → ℕ) a + S2048x1x128.size a ≤ S2048x2x128.size a) (i1 : ∀ a, (![0, 1, 0] : Fin 3 → ℕ) a + S2048x1x128.size a ≤ S2048x2x128.size a) :
    v.read (Elt F) (v.writes (Elt F) f [⟨Rect.unit (s := S2048x2x128) ![0, 1, 0] S2048x1x128.size i1, p1⟩, ⟨Rect.unit (s := S2048x2x128) ![0, 0, 0] S2048x1x128.size i0, p0⟩]) = Gv := by
  funext y
  have hy1 : (y 1).val < 2 := (y 1).isLt
  refine View.read_writes_apply_of_pieces v f Gv _ ?_ y ?_
  · intro p hp x
    have hx1 : (x 1).val < (p.1.shape.size 1) := (x 1).isLt
    rcases List.mem_cons.mp hp with rfl | hp
    · refine (h1 x).trans (congrArg Gv (funext fun a => Fin.ext ?_))
      fin_cases a
      · show (x 0).val = 0 + 1 * (x 0).val; omega
      · show 1 = 1 + 1 * (x 1).val
        have : (x 1).val < 1 := hx1
        omega
      · show (x 2).val = 0 + 1 * (x 2).val; omega
    · obtain rfl := List.mem_singleton.mp hp
      refine (h0 x).trans (congrArg Gv (funext fun a => Fin.ext ?_))
      fin_cases a
      · show (x 0).val = 0 + 1 * (x 0).val; omega
      · show 0 = 0 + 1 * (x 1).val
        have : (x 1).val < 1 := hx1
        omega
      · show (x 2).val = 0 + 1 * (x 2).val; omega
  · have hy0 : (y 0).val < 2048 := (y 0).isLt
    have hy2 : (y 2).val < 128 := (y 2).isLt
    by_cases h : (y 1).val = 0
    · refine ⟨_, List.mem_cons_of_mem _ (List.mem_singleton.mpr rfl), (Rect.mem_set_unit (s := S2048x2x128) (inb := i0)).mpr fun a => ?_⟩
      fin_cases a
      · show 0 ≤ (y 0).val ∧ (y 0).val < 0 + 2048; omega
      · show 0 ≤ (y 1).val ∧ (y 1).val < 0 + 1; omega
      · show 0 ≤ (y 2).val ∧ (y 2).val < 0 + 128; omega
    · refine ⟨_, List.mem_cons_self, (Rect.mem_set_unit (s := S2048x2x128) (inb := i1)).mpr fun a => ?_⟩
      fin_cases a
      · show 0 ≤ (y 0).val ∧ (y 0).val < 0 + 2048; omega
      · show 1 ≤ (y 1).val ∧ (y 1).val < 1 + 1; omega
      · show 0 ≤ (y 2).val ∧ (y 2).val < 0 + 128; omega

/-- The body's load is of the whole block. -/
theorem load_whole {κ : Kind} {sp : Space} (v : View sig κ sp S2048x128 .i32) (f : v.ty.Contents (Elt F)) (i0 : ∀ a, (![0, 0] : Fin 2 → ℕ) a + S2048x128.size a ≤ S2048x128.size a) :
    v.readAt (Elt F) (Rect.unit (s := S2048x128) ![0, 0] S2048x128.size i0).toLoadRect f = v.read (Elt F) f := by
  funext y
  exact congrArg (v.read (Elt F) f) (funext fun a => Fin.ext (by
    fin_cases a
    · show 0 + 1 * (y 0).val = (y 0).val; omega
    · show 0 + 1 * (y 1).val = (y 1).val; omega))

abbrev pt (c : Dev nD) {sp : Space} {sh : Shape} {e : EltTy} (M : Memref sig .tc sp sh e) (f : Buf (Elt F) (M.view.loc (c.tc : Thread nD τ))) : sProp 𝕄 :=
  M.view.loc (c.tc : Thread nD τ) ↦{fullShare} f

theorem expand_run (c : Dev nD) (i : grid1.Coords) (M1 : Memref sig .tc .vmem S2048x128 .i32) (h1 : M1.IsWhole)
    (M2 : Memref sig .tc .vmem S2048x2x128 .f32) (h2 : M2.IsWhole) (M3 : Memref sig .tc .vmem S2048x2x128 .f32) (h3 : M3.IsWhole)
    (f1 : Buf (Elt F) (M1.view.loc (c.tc : Thread nD τ))) (f2 : Buf (Elt F) (M2.view.loc (c.tc : Thread nD τ))) (f3 : Buf (Elt F) (M3.view.loc (c.tc : Thread nD τ)))
    (Q : PUnit → sProp 𝕄) :
    iprop(pt c M1 f1 ∗ pt c M2 f2 ∗ pt c M3 f3
        ∗ (∀ g2, ∀ g3, ⌜M2.view.read (Elt F) g2 = cosOf (n := 2048) (M1.view.read (Elt F) f1)⌝ -∗ ⌜M3.view.read (Elt F) g3 = sinOf (n := 2048) (M1.view.read (Elt F) f1)⌝
            -∗ pt c M1 f1 -∗ pt c M2 g2 -∗ pt c M3 g3 -∗ Q ⟨⟩))
      ⊢ wp frame (wpE (defs₀ (F := F)) 𝒱₀ (c.tc : Thread nD τ) none) Set.univ (cc1__expand_body i M1 h1 M2 h2 M3 h3) Q := by
  rw [cc1__expand_body_eq_skeleton]; unfold cc1__expand_body_skel
  iintro ⟨H1, H2, H3, Hk⟩
  sl_exec!
  sl_step
  iapply Hk $$ [] [] H1 H2 H3
  · ipureintro
    sl_unfold_words
    exact rows_written M2.view _ _ _ _ (fun y => (pay4_apply _ y).trans (by rw [load_whole])) (fun y => (pay5_apply _ y).trans (by rw [load_whole])) _ _
  · ipureintro
    sl_unfold_words
    exact rows_written M3.view _ _ _ _ (fun y => (pay6_apply _ y).trans (by rw [load_whole])) (fun y => (pay7_apply _ y).trans (by rw [load_whole])) _ _

end Cert.Proof.Rope

end
-- ==== Proof.Region.lean ====
/-
  The TensorCore call as a region of @main: what each window holds at each point, the body's
  obligation, the arrays' contents at the end (the whole arrays of cosines and sines), and the region
  itself, entered and left with the core owing nothing and its recorded waits bounded as they were.
-/
module

public import proofs.«01_k».proof.Proof.Expand
public import Idealize.ShloMosaic.Lib.Pipeline.FrameTail
public import Idealize.ShloMosaic.Lib.Pipeline.FrameBody
public import Idealize.ShloMosaic.Lib.Pipeline.Value

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

open Idealize.ShloMosaic.Pipeline (Dat BodyObligation)

local notation "𝕄" => MT nD τ sig (HIx 1) (Elt F) ℕ UU ℕ

variable (V : Dev nD → Valuation τ sig (Elt F))

/-- The block of packed rows point `t` reads. -/
def rowsAt (c : Dev nD) (t : Fin cfg1.N) : S2048x128.Idx → BitVec 32 :=
  (win1_0.blk t).view.read (Elt F) (V c (Proc.devRef .tc main_v34))

/-- What the recorded waits stay within: pairs no higher than the SparseCore call's own. -/
def lowPairs (c : Dev nD) : Set (SemLoc sig × HIx 1) := {p | (K (F := F)).lev (T c, p.1) p.2 ≤ 8}

def dats (_ : Fin 1) (c : Dev nD) : Dat τ (Elt F) (HIx 1) ℕ UU ℕ cfg1 c where
  A w := V c (Proc.devRef .tc (Pipeline.arrRef spec1 w))
  after w t := match w with
    | ⟨0, _⟩ => rowsAt V c t
    | ⟨1, _⟩ => cosOf (F := F) (n := 2048) (rowsAt V c t)
    | ⟨2, _⟩ => sinOf (F := F) (n := 2048) (rowsAt V c t)
  Φ _ := iprop(emp)
  q _ := fullShare
  owed _ := 0
  recorded _ := lowPairs (F := F) c

theorem dats_A (c : Dev nD) (w : Fin 3) : (dats V 0 c).A w = V c (Proc.devRef .tc (Pipeline.arrRef spec1 w)) := by
  dsimp only [dats]

theorem before_rows (c : Dev nD) (t : Fin cfg1.N) (d : (cfg1.win 0).block.Idx → Elt F (cfg1.win 0).elt) : (dats V 0 c).before 0 t d = rowsAt V c t := by
  rw [(dats V 0 c).before_fetched 0 t (fetch1_0 t) d]; rfl

/-- Whole buffers, held with a given reading. -/
theorem owns_pt (c : Dev nD) {sp : Space} {sh : Shape} {e : EltTy} (M : Memref sig .tc sp sh e) (hM : M.IsWhole) (X : sh.Idx → Elt F e) :
    (owns (c.tc : Thread nD τ) M fullShare X : sProp 𝕄) = iprop(∃ f, ⌜M.view.read (Elt F) f = X⌝ ∗ pt c M f) := by
  unfold owns pt; rw [hM.set_eq_univ]

theorem body_obligation (c : Dev nD) : BodyObligation (dats V 0 c) (defs₀ (F := F)) 𝒱₀ (none : HIx 1) Set.univ := fun t => by
  rw [bigSep_W1, bigSep_W1]
  dsimp only
  simp only [owns_pt c (st1_0 t) (stage_whole1 0 _), owns_pt c (st1_1 t) (stage_whole1 1 _), owns_pt c (st1_2 t) (stage_whole1 2 _)]
  rw [show (dats V 0 c).Φ t.castSucc = (dats V 0 c).Φ t.succ from rfl, show (dats V 0 c).owesAt none t.castSucc = (dats V 0 c).owesAt none t.succ from rfl]
  iintro ⟨HΦ, HO, ⟨%d0, %f0, %hf0, H0⟩, ⟨%d1, %f1, %hf1, H1⟩, ⟨%d2, %f2, %hf2, H2⟩⟩
  rw [before_rows] at hf0
  have h := expand_run (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) f0 f1 f2
    (fun _ => iprop((dats V 0 c).Φ t.succ ∗ (dats V 0 c).owesAt none t.succ
            ∗ (∃ f, ⌜View.read (Elt F) (st1_0 t).view f = (dats V 0 c).after 0 t⌝ ∗ pt c (st1_0 t) f)
            ∗ (∃ f, ⌜View.read (Elt F) (st1_1 t).view f = (dats V 0 c).after 1 t⌝ ∗ pt c (st1_1 t) f)
            ∗ (∃ f, ⌜View.read (Elt F) (st1_2 t).view f = (dats V 0 c).after 2 t⌝ ∗ pt c (st1_2 t) f)))
  iapply h
  isplitl [H0]; · iexact H0
  isplitl [H1]; · iexact H1
  isplitl [H2]; · iexact H2
  iintro %g2 %g3 %hg2 %hg3 H0 H1 H2
  rw [hf0] at hg2 hg3
  isplitl [HΦ]; · iexact HΦ
  isplitl [HO]; · iexact HO
  isplitl [H0]
  · iexists f0; isplitr; · ipureintro; exact hf0
    iexact H0
  isplitl [H1]
  · iexists g2; isplitr; · ipureintro; exact hg2
    iexact H1
  · iexists g3; isplitr; · ipureintro; exact hg3
    iexact H2

/-! ## The arrays at the end -/

/-- Where the three windows' blocks lie at point `t`. -/
theorem index_all : ∀ t : Fin grid1.N, (win1_0.index t 0 = t.val ∧ win1_0.index t 1 = 0)
    ∧ (win1_1.index t 0 = t.val ∧ win1_1.index t 1 = 0 ∧ win1_1.index t 2 = 0)
    ∧ (win1_2.index t 0 = t.val ∧ win1_2.index t 1 = 0 ∧ win1_2.index t 2 = 0) := by decide +kernel
theorem xsize_all : ∀ t : Fin grid1.N, (win1_1.xsize (grid1.coords t) 0 = 2048 ∧ win1_1.xsize (grid1.coords t) 1 = 2 ∧ win1_1.xsize (grid1.coords t) 2 = 128)
    ∧ (win1_2.xsize (grid1.coords t) 0 = 2048 ∧ win1_2.xsize (grid1.coords t) 1 = 2 ∧ win1_2.xsize (grid1.coords t) 2 = 128) := by decide +kernel

theorem mem_blk1 (t : Fin cfg1.N) (i : S8192x2x128.Idx) (h : t.val * 2048 ≤ (i 0 : Nat) ∧ (i 0 : Nat) < t.val * 2048 + 2048) :
    i ∈ ((cfg1.win 1).blk t).view.set := by
  show i ∈ ((View.whole main_v35_0).slice (win1_1.rect t)).set
  rw [View.set_slice_whole, Rect.mem_set_unit]
  have h1 : (i 1 : Nat) < 2 := (i 1).isLt
  have h2 : (i 2 : Nat) < 128 := (i 2).isLt
  obtain ⟨e0, e1, e2⟩ := (index_all t).2.1
  obtain ⟨x0, x1, x2⟩ := (xsize_all t).1
  intro a
  match a with
  | ⟨0, _⟩ => show win1_1.index t 0 * 2048 ≤ (i 0 : Nat) ∧ (i 0 : Nat) < win1_1.index t 0 * 2048 + win1_1.xsize (grid1.coords t) 0
              rw [e0, x0]; exact h
  | ⟨1, _⟩ => show win1_1.index t 1 * 2 ≤ (i 1 : Nat) ∧ (i 1 : Nat) < win1_1.index t 1 * 2 + win1_1.xsize (grid1.coords t) 1
              rw [e1, x1]; omega
  | ⟨2, _⟩ => show win1_1.index t 2 * 128 ≤ (i 2 : Nat) ∧ (i 2 : Nat) < win1_1.index t 2 * 128 + win1_1.xsize (grid1.coords t) 2
              rw [e2, x2]; omega

theorem cover1 (i : S8192x2x128.Idx) : ∃ t : Fin cfg1.N, (cfg1.win 1).flush t = true ∧ i ∈ ((cfg1.win 1).blk t).view.set := by
  have h0 : (i 0 : Nat) < 8192 := (i 0).isLt
  have hN : cfg1.N = 4 := N_1
  refine ⟨⟨(i 0).val / 2048, by omega⟩, flush1_1 _, mem_blk1 _ i ?_⟩
  show (i 0).val / 2048 * 2048 ≤ (i 0).val ∧ (i 0).val < (i 0).val / 2048 * 2048 + 2048
  omega

theorem cos_flushed (c : Dev nD) (t : Fin cfg1.N) :
    (dats V 0 c).flushed 1 t = ((cfg1.win 1).blk t).view.read (Elt F) (cosOf (F := F) (n := 8192) (V c (Proc.devRef .tc main_v34))) := by
  obtain ⟨d0, d1⟩ := (index_all t).1
  obtain ⟨e0, e1, e2⟩ := (index_all t).2.1
  funext y
  have hX : rowsAt V c t (ix2 (y 0) (laneAt (y 1) (y 2)))
      = (V c (Proc.devRef .tc main_v34) : S8192x128.Idx → BitVec 32) (ix2 ((((cfg1.win 1).blk t).view.emb y : S8192x2x128.Idx) 0) (laneAt ((((cfg1.win 1).blk t).view.emb y : S8192x2x128.Idx) 1) ((((cfg1.win 1).blk t).view.emb y : S8192x2x128.Idx) 2))) := by
    refine congrArg (V c (Proc.devRef .tc main_v34) : S8192x128.Idx → BitVec 32) (funext fun a => Fin.ext ?_)
    match a with
    | ⟨0, _⟩ => show win1_0.index t 0 * 2048 + 1 * (y 0).val = win1_1.index t 0 * 2048 + 1 * (y 0).val
                rw [d0, e0]
    | ⟨1, _⟩ => show win1_0.index t 1 * 128 + 1 * (64 * (y 1).val + (y 2).val % 64) = 64 * (win1_1.index t 1 * 2 + 1 * (y 1).val) + (win1_1.index t 2 * 128 + 1 * (y 2).val) % 64
                rw [d1, e1, e2]; omega
  exact congrArg (fun z : BitVec 32 => FloatOps.ofBits (F := F) .f32 (z <<< (16 : BitVec 32))) hX

theorem mem_blk2 (t : Fin cfg1.N) (i : S8192x2x128.Idx) (h : t.val * 2048 ≤ (i 0 : Nat) ∧ (i 0 : Nat) < t.val * 2048 + 2048) :
    i ∈ ((cfg1.win 2).blk t).view.set := by
  show i ∈ ((View.whole main_v35_1).slice (win1_2.rect t)).set
  rw [View.set_slice_whole, Rect.mem_set_unit]
  have h1 : (i 1 : Nat) < 2 := (i 1).isLt
  have h2 : (i 2 : Nat) < 128 := (i 2).isLt
  obtain ⟨e0, e1, e2⟩ := (index_all t).2.2
  obtain ⟨x0, x1, x2⟩ := (xsize_all t).2
  intro a
  match a with
  | ⟨0, _⟩ => show win1_2.index t 0 * 2048 ≤ (i 0 : Nat) ∧ (i 0 : Nat) < win1_2.index t 0 * 2048 + win1_2.xsize (grid1.coords t) 0
              rw [e0, x0]; exact h
  | ⟨1, _⟩ => show win1_2.index t 1 * 2 ≤ (i 1 : Nat) ∧ (i 1 : Nat) < win1_2.index t 1 * 2 + win1_2.xsize (grid1.coords t) 1
              rw [e1, x1]; omega
  | ⟨2, _⟩ => show win1_2.index t 2 * 128 ≤ (i 2 : Nat) ∧ (i 2 : Nat) < win1_2.index t 2 * 128 + win1_2.xsize (grid1.coords t) 2
              rw [e2, x2]; omega

theorem cover2 (i : S8192x2x128.Idx) : ∃ t : Fin cfg1.N, (cfg1.win 2).flush t = true ∧ i ∈ ((cfg1.win 2).blk t).view.set := by
  have h0 : (i 0 : Nat) < 8192 := (i 0).isLt
  have hN : cfg1.N = 4 := N_1
  refine ⟨⟨(i 0).val / 2048, by omega⟩, flush1_2 _, mem_blk2 _ i ?_⟩
  show (i 0).val / 2048 * 2048 ≤ (i 0).val ∧ (i 0).val < (i 0).val / 2048 * 2048 + 2048
  omega

theorem sin_flushed (c : Dev nD) (t : Fin cfg1.N) :
    (dats V 0 c).flushed 2 t = ((cfg1.win 2).blk t).view.read (Elt F) (sinOf (F := F) (n := 8192) (V c (Proc.devRef .tc main_v34))) := by
  obtain ⟨d0, d1⟩ := (index_all t).1
  obtain ⟨e0, e1, e2⟩ := (index_all t).2.2
  funext y
  have hX : rowsAt V c t (ix2 (y 0) (laneAt (y 1) (y 2)))
      = (V c (Proc.devRef .tc main_v34) : S8192x128.Idx → BitVec 32) (ix2 ((((cfg1.win 2).blk t).view.emb y : S8192x2x128.Idx) 0) (laneAt ((((cfg1.win 2).blk t).view.emb y : S8192x2x128.Idx) 1) ((((cfg1.win 2).blk t).view.emb y : S8192x2x128.Idx) 2))) := by
    refine congrArg (V c (Proc.devRef .tc main_v34) : S8192x128.Idx → BitVec 32) (funext fun a => Fin.ext ?_)
    match a with
    | ⟨0, _⟩ => show win1_0.index t 0 * 2048 + 1 * (y 0).val = win1_2.index t 0 * 2048 + 1 * (y 0).val
                rw [d0, e0]
    | ⟨1, _⟩ => show win1_0.index t 1 * 128 + 1 * (64 * (y 1).val + (y 2).val % 64) = 64 * (win1_2.index t 1 * 2 + 1 * (y 1).val) + (win1_2.index t 2 * 128 + 1 * (y 2).val) % 64
                rw [d1, e1, e2]; omega
  exact congrArg (fun z : BitVec 32 => FloatOps.ofBits (F := F) .f32 (z &&& 4294901760#32)) hX

/-- The two result arrays at the region's end. -/
theorem final_cos (c : Dev nD) : (dats V 0 c).arrAt 1 cfg1.N = cosOf (F := F) (n := 8192) (V c (Proc.devRef .tc main_v34)) :=
  (dats V 0 c).arrAt_eq_of_cover 1 _ (fun t _ => cos_flushed V c t) cover1
theorem final_sin (c : Dev nD) : (dats V 0 c).arrAt 2 cfg1.N = sinOf (F := F) (n := 8192) (V c (Proc.devRef .tc main_v34)) :=
  (dats V 0 c).arrAt_eq_of_cover 2 _ (fun t _ => sin_flushed V c t) cover2

/-! ## The region -/

abbrev adm : (p : Fin 1) → (pcfgs (F := F) p).Adm := fun p => (cfgs p).toPCfg_adm

/-- The device's buffers when the region ends. -/
abbrev Vend (c : Dev nD) : Valuation τ sig (Elt F) := Pipeline.afterRegion (dats V 0 c) (V c)

/-- What rides beside the buffers: the core owes nothing, and its recorded waits are low. -/
abbrev idle (c : Dev nD) : sProp 𝕄 := iprop(∃ W, ⌜(K (F := F)).WBelow (T c) W 8⌝ ∗ owes (T c) (0 : CellTallies nD τ sig (HIx 1)) W)

set_option backward.isDefEq.respectTransparency.types false in
def reg : Pipeline.RegionSeg (pcfgs (F := F)) adm (dats V) (none : HIx 1) defs₀ 𝒱₀ ((K (F := F)).L) ((K (F := F)).lev) 0 where
  win := launch1.win.to₀
  block_pos := launch1.block_pos
  stage_whole := launch1.stage_whole
  K := PEmpty
  osem := fun k => k.elim
  ho := Pipeline.OwnSemFacts.none _
  hbody c := (body_obligation V c).loose
  hwaits := Pipeline.hwaits_of_owed_zero _ _ _ _ _ _ 0 fun _ _ => rfl
  pre c := iprop(StableHlo.held (T c) (Pipeline.ucRefs τ sig) (V c) ∗ idle (F := F) c)
  post c := iprop(StableHlo.held (T c) (Pipeline.ucRefs τ sig) (Vend V c) ∗ idle (F := F) c)
  X _ := iprop(emp)
  Y _ := iprop(emp)
  Z c := Pipeline.unscopedRest (Ix := HIx 1) (Name := ℕ) (U := UU) (Lvl := ℕ) spec1 c (fun b => V c (Proc.devRef .tc b))
  hentry c := by
    rw [Pipeline.ownSems0_none, ← Pipeline.unscopedBufs_held (Ix := HIx 1) (Name := ℕ) (U := UU) (Lvl := ℕ) c (V c)]
    have hsplit := Pipeline.arrays_of_unscopedBufs (p := 0) (pcfgs (F := F)) adm (dats V) launch1.win launch1.arr_whole c
      ((dats V 0 c).share_full fun _ => rfl) (fun b => V c (Proc.devRef .tc b)) (dats_A V c)
    iintro ⟨⟨Hub, ⟨%W, %hW, HO⟩⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (dats V 0 c).Φ 0 = iprop(emp) from rfl]
    iintro ⟨-, -, -⟩
    iempintro
  hout c := by
    rw [Pipeline.ownSems0_none, show (dats V 0 c).Φ (Fin.last cfg1.N) = iprop(emp) from rfl, show Pipeline.scopedRest (Pipeline.pin (pcfgs (F := F)) adm 0).spec c = _ from scopedRest1_eq c]
    iintro -
    isplitr; · iempintro
    isplitr <;> iempintro
  hexit c := by
    have hjoin := Pipeline.unscopedBufs_of_arrays (p := 0) (pcfgs (F := F)) adm (Ix := HIx 1) (Name := ℕ) (U := UU) (Lvl := ℕ)
      launch1.win launch1.arr_whole c (dats V) ((dats V 0 c).share_full fun _ => rfl)
      (fun b => V c (Proc.devRef .tc b)) (fun b => Vend V c (Proc.devRef .tc b)) ((dats V 0 c).arrAt · cfg1.N)
      (fun w => (Pipeline.afterRegion_arr (dats V 0 c) (V c) launch1.win.arr_inj w).symm)
      (fun b hb => Pipeline.afterRegion_of_not_arr (dats V 0 c) (V c)
        fun w h => hb (h ▸ Finset.mem_image.mpr ⟨w, Finset.mem_univ _, rfl⟩))
    rw [← Pipeline.unscopedBufs_held (Ix := HIx 1) (Name := ℕ) (U := UU) (Lvl := ℕ) c (Vend V c)]
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le 8
    iexact HO

end Cert.Proof.Rope

end
-- ==== Proof.Host.lean ====
/-
  @main as a SparseCore call and a TensorCore call between two straight lines of host operations, and
  the contents of the device's buffers at each stage.
-/
module

public import proofs.«01_k».proof.Proof.Region

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- The host operations before the SparseCore call, -/
def ops0 : List (HloOp τ sig (Elt F)) := [
  StableHlo.nullary main_v0 (sitofp .f32 (iotaInDim S64 32 0)),
  StableHlo.nullary main_cst (constant S_ .f32 0x40000000#32),
  StableHlo.unary main_cst main_v1 (broadcastInDim S64 ![] bcast_S_S64 : (⟨S_, .f32⟩ : BufTy).Contents (Elt F) → (⟨S64, .f32⟩ : BufTy).Contents (Elt F)),
  StableHlo.binary main_v1 main_v0 main_v2 (mulf : (⟨S64, .f32⟩ : BufTy).Contents (Elt F) → (⟨S64, .f32⟩ : BufTy).Contents (Elt F) → (⟨S64, .f32⟩ : BufTy).Contents (Elt F)),
  StableHlo.nullary main_cst_0 (constant S_ .f32 0x00000000#32),
  StableHlo.unary main_cst_0 main_v3 (broadcastInDim S64 ![] bcast_S_S64 : (⟨S_, .f32⟩ : BufTy).Contents (Elt F) → (⟨S64, .f32⟩ : BufTy).Contents (Elt F)),
  StableHlo.binary main_v3 main_v2 main_v4 (addf : (⟨S64, .f32⟩ : BufTy).Contents (Elt F) → (⟨S64, .f32⟩ : BufTy).Contents (Elt F) → (⟨S64, .f32⟩ : BufTy).Contents (Elt F)),
  StableHlo.nullary main_cst_1 (constant S_ .f32 0x43000000#32),
  StableHlo.unary main_cst_1 main_v5 (broadcastInDim S64 ![] bcast_S_S64 : (⟨S_, .f32⟩ : BufTy).Contents (Elt F) → (⟨S64, .f32⟩ : BufTy).Contents (Elt F)),
  StableHlo.binary main_v4 main_v5 main_v6 (Host.divf : (⟨S64, .f32⟩ : BufTy).Contents (Elt F) → (⟨S64, .f32⟩ : BufTy).Contents (Elt F) → (⟨S64, .f32⟩ : BufTy).Contents (Elt F)),
  StableHlo.nullary main_cst_2 (constant S_ .f32 0x461C4000#32),
  StableHlo.unary main_cst_2 main_v7 (broadcastInDim S64 ![] bcast_S_S64 : (⟨S_, .f32⟩ : BufTy).Contents (Elt F) → (⟨S64, .f32⟩ : BufTy).Contents (Elt F)),
  StableHlo.binary main_v7 main_v6 main_v8 (Host.powf : (⟨S64, .f32⟩ : BufTy).Contents (Elt F) → (⟨S64, .f32⟩ : BufTy).Contents (Elt F) → (⟨S64, .f32⟩ : BufTy).Contents (Elt F)),
  StableHlo.nullary main_cst_3 (constant S_ .f32 0x3F800000#32),
  StableHlo.unary main_cst_3 main_v9 (broadcastInDim S64 ![] bcast_S_S64 : (⟨S_, .f32⟩ : BufTy).Contents (Elt F) → (⟨S64, .f32⟩ : BufTy).Contents (Elt F)),
  StableHlo.binary main_v9 main_v8 main_v10 (Host.divf : (⟨S64, .f32⟩ : BufTy).Contents (Elt F) → (⟨S64, .f32⟩ : BufTy).Contents (Elt F) → (⟨S64, .f32⟩ : BufTy).Contents (Elt F)),
  StableHlo.nullary main_v11 (sitofp .f32 (iotaInDim S32768 32 0)),
  StableHlo.unary main_v11 main_v12 (broadcastInDim S32768x1 ![0] bcast_S32768_S32768x1_0 : (⟨S32768, .f32⟩ : BufTy).Contents (Elt F) → (⟨S32768x1, .f32⟩ : BufTy).Contents (Elt F)),
  StableHlo.unary main_v10 main_v13 (broadcastInDim S1x64 ![1] bcast_S64_S1x64_1 : (⟨S64, .f32⟩ : BufTy).Contents (Elt F) → (⟨S1x64, .f32⟩ : BufTy).Contents (Elt F)),
  StableHlo.unary main_v12 main_v14 (broadcastInDim S32768x64 ![0, 1] bcast_S32768x1_S32768x64_0_1 : (⟨S32768x1, .f32⟩ : BufTy).Contents (Elt F) → (⟨S32768x64, .f32⟩ : BufTy).Contents (Elt F)),
  StableHlo.unary main_v13 main_v15 (broadcastInDim S32768x64 ![0, 1] bcast_S1x64_S32768x64_0_1 : (⟨S1x64, .f32⟩ : BufTy).Contents (Elt F) → (⟨S32768x64, .f32⟩ : BufTy).Contents (Elt F)),
  StableHlo.binary main_v14 main_v15 main_v16 (mulf : (⟨S32768x64, .f32⟩ : BufTy).Contents (Elt F) → (⟨S32768x64, .f32⟩ : BufTy).Contents (Elt F) → (⟨S32768x64, .f32⟩ : BufTy).Contents (Elt F)),
  StableHlo.unary main_v16 main_v17 (Host.sin : (⟨S32768x64, .f32⟩ : BufTy).Contents (Elt F) → (⟨S32768x64, .f32⟩ : BufTy).Contents (Elt F)),
  StableHlo.unary main_v17 main_v18 (Host.reducePrecision 8 7 : (⟨S32768x64, .f32⟩ : BufTy).Contents (Elt F) → (⟨S32768x64, .f32⟩ : BufTy).Contents (Elt F)),
  StableHlo.unary main_v18 main_v19 (bitcastToInt : (⟨S32768x64, .f32⟩ : BufTy).Contents (Elt F) → (⟨S32768x64, .i32⟩ : BufTy).Contents (Elt F)),
  StableHlo.nullary main_c (constantI S_ 32 16#32),
  StableHlo.unary main_c main_v20 (broadcastInDim S32768x64 ![] bcast_S_S32768x64 : (⟨S_, .i32⟩ : BufTy).Contents (Elt F) → (⟨S32768x64, .i32⟩ : BufTy).Contents (Elt F)),
  StableHlo.binary main_v19 main_v20 main_v21 (Host.shrui : (⟨S32768x64, .i32⟩ : BufTy).Contents (Elt F) → (⟨S32768x64, .i32⟩ : BufTy).Contents (Elt F) → (⟨S32768x64, .i32⟩ : BufTy).Contents (Elt F)),
  StableHlo.nullary main_c_4 (constantI S_ 32 16#32),
  StableHlo.unary main_c_4 main_v22 (broadcastInDim S32768x64 ![] bcast_S_S32768x64 : (⟨S_, .i32⟩ : BufTy).Contents (Elt F) → (⟨S32768x64, .i32⟩ : BufTy).Contents (Elt F)),
  StableHlo.binary main_v21 main_v22 main_v23 (Host.shli : (⟨S32768x64, .i32⟩ : BufTy).Contents (Elt F) → (⟨S32768x64, .i32⟩ : BufTy).Contents (Elt F) → (⟨S32768x64, .i32⟩ : BufTy).Contents (Elt F)),
  StableHlo.unary main_v16 main_v24 (Host.cos : (⟨S32768x64, .f32⟩ : BufTy).Contents (Elt F) → (⟨S32768x64, .f32⟩ : BufTy).Contents (Elt F)),
  StableHlo.unary main_v24 main_v25 (Host.reducePrecision 8 7 : (⟨S32768x64, .f32⟩ : BufTy).Contents (Elt F) → (⟨S32768x64, .f32⟩ : BufTy).Contents (Elt F)),
  StableHlo.unary main_v25 main_v26 (bitcastToInt : (⟨S32768x64, .f32⟩ : BufTy).Contents (Elt F) → (⟨S32768x64, .i32⟩ : BufTy).Contents (Elt F)),
  StableHlo.nullary main_c_5 (constantI S_ 32 16#32),
  StableHlo.unary main_c_5 main_v27 (broadcastInDim S32768x64 ![] bcast_S_S32768x64 : (⟨S_, .i32⟩ : BufTy).Contents (Elt F) → (⟨S32768x64, .i32⟩ : BufTy).Contents (Elt F)),
  StableHlo.binary main_v26 main_v27 main_v28 (Host.shrui : (⟨S32768x64, .i32⟩ : BufTy).Contents (Elt F) → (⟨S32768x64, .i32⟩ : BufTy).Contents (Elt F) → (⟨S32768x64, .i32⟩ : BufTy).Contents (Elt F)),
  StableHlo.binary main_v23 main_v28 main_v29 (ori : (⟨S32768x64, .i32⟩ : BufTy).Contents (Elt F) → (⟨S32768x64, .i32⟩ : BufTy).Contents (Elt F) → (⟨S32768x64, .i32⟩ : BufTy).Contents (Elt F)),
  StableHlo.reshape main_v29 main_v30 (rfl : (.i32 : EltTy) = .i32) shapeCasts_S32768x64_S16384x128,
  StableHlo.unary main_v30 main_v31 ((extractStridedSlice S8192x128 ![0, 0] · slices_S16384x128_S8192x128_0_0) : (⟨S16384x128, .i32⟩ : BufTy).Contents (Elt F) → (⟨S8192x128, .i32⟩ : BufTy).Contents (Elt F)),
  StableHlo.unary main_v31 main_v32 (id : (⟨S8192x128, .i32⟩ : BufTy).Contents (Elt F) → (⟨S8192x128, .i32⟩ : BufTy).Contents (Elt F)),
  StableHlo.reshape main_arg1 main_v33 (rfl : (.i32 : EltTy) = .i32) shapeCasts_S4x4096_S32x512]
/-- and after the TensorCore's. -/
def ops1 : List (HloOp τ sig (Elt F)) := [
  StableHlo.reshape main_v35_0 main_v36 (rfl : (.f32 : EltTy) = .f32) shapeCasts_S8192x2x128_S4x4096x128,
  StableHlo.reshape main_v35_1 main_v37 (rfl : (.f32 : EltTy) = .f32) shapeCasts_S8192x2x128_S4x4096x128]

set_option maxRecDepth 4096 in
theorem main_eq (d : Dev nD) : main (F := F) d = (StableHlo.seq ops0 >>= fun _ => (K (F := F)).run d 0 >>= fun _ =>
    (SparseCore.liftProg (Prog.lift (.customCall (Pipeline.entry 0) ())) : Prog (TpuEff nD τ sig (Elt F) (SparseCore.Sig (ΛP (F := F)) 1) .tc) PUnit) >>= fun _ => StableHlo.seq ops1) := by
  rfl

theorem ops0_sub : ∀ op ∈ (ops0 (F := F)), op.bufs ⊆ Pipeline.ucRefs τ sig := by
  intro op h
  refine Pipeline.sub_ucRefs op ?_
  unfold ops0 at h
  simp only [List.mem_cons, List.mem_nil_iff, or_false] at h
  rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> simp
theorem ops1_sub : ∀ op ∈ (ops1 (F := F)), op.bufs ⊆ Pipeline.ucRefs τ sig := by
  intro op h
  refine Pipeline.sub_ucRefs op ?_
  unfold ops1 at h
  simp only [List.mem_cons, List.mem_nil_iff, or_false] at h
  rcases h with rfl | rfl <;> simp
theorem ops0_fresh : ∀ op ∈ (ops0 (F := F)), op.fresh = ∅ :=
  List.forall_iff_forall_mem.mp (StableHlo.forall_fresh_of_map rfl)
theorem ops1_fresh : ∀ op ∈ (ops1 (F := F)), op.fresh = ∅ :=
  List.forall_iff_forall_mem.mp (StableHlo.forall_fresh_of_map rfl)

variable (m : (ℓ : Loc nD τ sig) → Buf (Elt F) ℓ)

/-- The contents at launch, -/
def V0 (d : Dev nD) : Valuation τ sig (Elt F) := fun b => m (d, b)
/-- after the table and the rows of positions are built, -/
def V1 (d : Dev nD) : Valuation τ sig (Elt F) := StableHlo.after ops0 (V0 m d)
/-- The table, the positions and the gathered rows' buffer as the SparseCore finds them. -/
def TT (d : Dev nD) : Buf (Elt F) (tLoc d) := V1 m d (Proc.devRef .tc main_v32)
def PP (d : Dev nD) : Buf (Elt F) (pLoc d) := V1 m d (Proc.devRef .tc main_v33)
def O0 (d : Dev nD) : Buf (Elt F) (oLoc d) := V1 m d (Proc.devRef .tc main_v34)
/-- after the gather, -/
def V2 (d : Dev nD) : Valuation τ sig (Elt F) :=
  Function.update (V1 m d) (Proc.devRef .tc main_v34) (gath (TT m d) (PP m d))
/-- after the TensorCore's call, -/
def V3 (d : Dev nD) : Valuation τ sig (Elt F) := Vend (V2 m) d
/-- and at the end. -/
def V4 (d : Dev nD) : Valuation τ sig (Elt F) := StableHlo.after ops1 (V3 m d)

end Cert.Proof.Rope

end
-- ==== Proof.Run.lean ====
/-
  The program's run: from any memory whose positions lie in the table, every execution ends with
  every unscoped TensorCore buffer at the stage after the last host operation, and every counter at zero.
-/
module

public import proofs.«01_k».proof.Proof.Host

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

variable (m : (ℓ : Loc nD τ sig) → Buf (Elt F) ℓ) (ρ : Dev nD → PrngReg)

/-! ## The buffers around the SparseCore call -/

theorem tRef_ne_p : (Proc.devRef .tc main_v32 : DevRef τ sig) ≠ Proc.devRef .tc main_v33 := StableHlo.devRef_ne_of_ne (by decide)
theorem tRef_ne_o : (Proc.devRef .tc main_v32 : DevRef τ sig) ≠ Proc.devRef .tc main_v34 := StableHlo.devRef_ne_of_ne (by decide)
theorem pRef_ne_o : (Proc.devRef .tc main_v33 : DevRef τ sig) ≠ Proc.devRef .tc main_v34 := StableHlo.devRef_ne_of_ne (by decide)

/-- The three arrays of the SparseCore call. -/
abbrev three : Finset (DevRef τ sig) := {Proc.devRef .tc main_v33, Proc.devRef .tc main_v32, Proc.devRef .tc main_v34}

theorem three_sub : three ⊆ Pipeline.ucRefs τ sig := by
  intro b hb
  simp only [three, Finset.mem_insert, Finset.mem_singleton] at hb
  rcases hb with rfl | rfl | rfl <;> exact Pipeline.devRef_mem_ucRefs (by decide)

theorem held_three (d : Dev nD) (W : Valuation τ sig (Elt F)) :
    (StableHlo.held (T d) three W : sProp 𝕄)
      = iprop((pLoc d ↦{fullShare} W (Proc.devRef .tc main_v33)) ∗ (tLoc d ↦{fullShare} W (Proc.devRef .tc main_v32))
          ∗ oLoc d ↦{fullShare} W (Proc.devRef .tc main_v34)) := by
  unfold StableHlo.held three
  rw [SparseCore.bigSep_insert' (by
      simp only [Finset.mem_insert, Finset.mem_singleton, not_or]; exact ⟨tRef_ne_p.symm, pRef_ne_o⟩),
    SparseCore.bigSep_insert' (by simp only [Finset.mem_singleton]; exact tRef_ne_o), bigSep_singleton]

theorem V2_t (d : Dev nD) : V2 m d (Proc.devRef .tc main_v32) = TT m d := Function.update_of_ne tRef_ne_o _ _
theorem V2_p (d : Dev nD) : V2 m d (Proc.devRef .tc main_v33) = PP m d := Function.update_of_ne pRef_ne_o _ _
theorem V2_o (d : Dev nD) : V2 m d (Proc.devRef .tc main_v34) = gath (TT m d) (PP m d) := Function.update_self _ _ _

/-- Lending the three arrays to the call and taking them back with the rows gathered. -/
theorem lend (d : Dev nD) :
    (StableHlo.held (T d) (Pipeline.ucRefs τ sig) (V1 m d) : sProp 𝕄)
      = iprop((bigSep Finset.univ fun c : Fin ((K (F := F)).nCore 0) => (P (TT m) (PP m) (O0 m)).st 0 d c)
          ∗ StableHlo.held (T d) (Pipeline.ucRefs τ sig \ three) (V1 m d)) := by
  rw [StableHlo.held_sub_split (T d) three_sub, held_three, st0_eq (TT m) (PP m) (O0 m) d]; rfl
theorem retake (d : Dev nD) :
    iprop((bigSep Finset.univ fun c : Fin ((K (F := F)).nCore 0) => (P (TT m) (PP m) (O0 m)).dn 0 d c)
          ∗ StableHlo.held (T d) (Pipeline.ucRefs τ sig \ three) (V1 m d))
      = (StableHlo.held (T d) (Pipeline.ucRefs τ sig) (V2 m d) : sProp 𝕄) := by
  rw [StableHlo.held_sub_split (T d) three_sub (V2 m d), held_three, V2_t, V2_p, V2_o, dn0_eq (TT m) (PP m) (O0 m) d,
    StableHlo.held_congr (T d) (V := V1 m d) (V' := V2 m d) fun b hb => ?_]
  exact (Function.update_of_ne (fun e => (Finset.mem_sdiff.mp hb).2 (by rw [e]; simp [three])) _ _).symm

/-! ## The launch's ghost state -/

/-- What the launch deals the TensorCore of device `d` for its pipeline. -/
def Gh (d : Dev nD) : sProp 𝕄 :=
  iprop(Pipeline.cellsGhost (Pipeline.pin (pcfgs (F := F)) adm) EP 0 d ∗ Pipeline.toksInit (Pipeline.pin (pcfgs (F := F)) adm) EP 0 d)

/-- The handshakes' rounds, the pipeline's rounds, no transfer counted. -/
def u₀ : UU := (initOf (K (F := F)).hsCells (K (F := F)).hsToks,
  (initOf (Pipeline.cells (nD := nD) (τ := τ) cfgs cellOf_inj) (Pipeline.launchToks cfgs cellOf_inj), 1))

theorem ghost_dealt : (BI.own (((Emb.inl : Emb UP (UP × Counters)).trans (embR : Emb (UP × Counters) 𝕄)) (initOf (Pipeline.cells (nD := nD) (τ := τ) cfgs cellOf_inj) (Pipeline.launchToks cfgs cellOf_inj))) : sProp 𝕄)
    ⊢ iprop(|==> bigSep Finset.univ fun d : Dev nD => Gh (F := F) d) := by
  refine (Pipeline.fund_ghost (Ix := HIx 1) (Val := Elt F) (Name := ℕ) (U := UU) (Lvl := ℕ) cfgs EP cellOf_inj).trans (bupd_mono ?_)
  have e1 : (bigSep Finset.univ fun d : Dev nD => bigSep Finset.univ fun p : Fin 1 => Pipeline.cellsGhost cfgs (EP : Emb UP 𝕄) p d)
      = bigSep Finset.univ fun d : Dev nD => Pipeline.cellsGhost (Pipeline.pin (pcfgs (F := F)) adm) EP 0 d :=
    bigSep_congr fun d _ => bigSep_univ_of_subsingleton (0 : Fin 1)
  have e2 : (bigSep Finset.univ fun d : Dev nD => bigSep Finset.univ fun p : Fin 1 => Pipeline.toksInit cfgs (EP : Emb UP 𝕄) p d)
      = bigSep Finset.univ fun d : Dev nD => Pipeline.toksInit (Pipeline.pin (pcfgs (F := F)) adm) EP 0 d :=
    bigSep_congr fun d _ => bigSep_univ_of_subsingleton (0 : Fin 1)
  unfold Gh
  rw [bigSep_sep', ← e1, ← e2]
  exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => Gh (F := F) d)
        ∗ bigSep Finset.univ fun thr : Thread nD τ => bigSep Finset.univ fun q : Fin 1 => (P (TT m) (PP m) (O0 m)).x q thr) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UP × Counters)) $$ Hu
  icases H with ⟨HH, HR⟩
  ihave H := (own_pair_emb (embR : Emb (UP × Counters) 𝕄) (initOf (Pipeline.cells (nD := nD) (τ := τ) cfgs cellOf_inj) (Pipeline.launchToks cfgs cellOf_inj)) (1 : Counters)) $$ HR
  icases H with ⟨HP, -⟩
  imod (ghost_dealt (F := F)) $$ HP with HG
  imodintro
  isplitl [HH]; · iexact HH
  isplitl [HG]; · iexact HG
  rw [show (bigSep Finset.univ fun thr : Thread nD τ => bigSep Finset.univ fun q : Fin 1 => (P (TT m) (PP m) (O0 m)).x q thr) = (iprop(emp) : sProp 𝕄) from
    (bigSep_congr fun _ _ => bigSep_univ_of_subsingleton (0 : Fin 1)).trans (BI.bigSep_emp_const _)]
  iempintro

/-! ## @main on the TensorCore -/

/-- What a TensorCore holds of the handshakes after the call, besides its record of waits. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_one (d : Dev nD) : ((K (F := F)).tcSt EH d 1 : sProp 𝕄) = iprop(idle (F := F) d ∗ tcRest (F := F) d) := by
  unfold SparseCore.Cfg.tcSt
  rw [(K (F := F)).Otc_end d (le_refl 1)]
  rfl

abbrev FIN (d : Dev nD) : sProp 𝕄 := StableHlo.held (T d) (Pipeline.ucRefs τ sig) (V4 m d)

variable [∀ e, Nonempty (Elt F e)]

/-- The TensorCore's call, lifted into the program with SparseCores: from the buffers after the gather to
    the buffers with the two results. -/
theorem region_run (d : Dev nD) {Φ : PUnit → sProp 𝕄} :
    iprop((iprop(boundary (T d) ∗ StableHlo.held (T d) (Pipeline.ucRefs τ sig) (V3 m d) ∗ idle (F := F) d) -∗ Φ ⟨⟩)
        ∗ boundary (T d) ∗ (StableHlo.held (T d) (Pipeline.ucRefs τ sig) (V2 m d) ∗ idle (F := F) d)
        ∗ levAts (K (F := F)).L (K (F := F)).lev ∗ Gh (F := F) d)
      ⊢ wp frame (wpE ((K (F := F)).defs (D (F := F))) 𝒱 (T d) none) Set.univ
          (SparseCore.liftProg (Prog.lift (.customCall (Pipeline.entry 0) ()))
            : Prog (TpuEff nD τ sig (Elt F) (SparseCore.Sig (ΛP (F := F)) 1) .tc) PUnit) Φ := by
  refine BI.Entails.trans ?_ ((K (F := F)).wp_liftProg (D (F := F)) 𝒱 (T d) Set.univ none _ _)
  have h := Pipeline.RegionSeg.wp (pcfgs (F := F)) adm (dats (V2 m)) (none : HIx 1) cellOf_inj EP defs₀ 𝒱₀ ((K (F := F)).L) ((K (F := F)).lev) (reg (V2 m)) d
    none (fun _ h => nomatch h) (fun x => Prog.ret x) Φ
  suffices e : iprop((iprop(boundary (T d) ∗ StableHlo.held (T d) (Pipeline.ucRefs τ sig) (V3 m d) ∗ idle (F := F) d) -∗ Φ ⟨⟩)
        ∗ boundary (T d) ∗ (StableHlo.held (T d) (Pipeline.ucRefs τ sig) (V2 m d) ∗ idle (F := F) d)
        ∗ levAts (K (F := F)).L (K (F := F)).lev ∗ Gh (F := F) d)
      ⊢ (iprop((iprop(boundary (T d) ∗ StableHlo.held (T d) (Pipeline.ucRefs τ sig) (V3 m d) ∗ idle (F := F) d)
          -∗ wp frame (wpE (D (F := F)) 𝒱 (T d) none) Set.univ (Prog.ret ⟨⟩) Φ)
        ∗ boundary (T d) ∗ (StableHlo.held (T d) (Pipeline.ucRefs τ sig) (V2 m d) ∗ idle (F := F) d)
        ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄) from BI.Entails.trans e h
  unfold Gh
  iintro ⟨Hk, Hb, Hpre, HL, HG, Ht⟩
  isplitl [Hk]
  · iintro H; rw [wp_ret]; imodintro
    iapply Hk; iexact H
  isplitl [Hb]; · iexact Hb
  isplitl [Hpre]; · iexact Hpre
  isplitl [HL]; · iexact HL
  isplitl [HG] <;> iassumption

set_option maxRecDepth 8192 in
/-- The host operations before the calls, -/
theorem pre_run (d : Dev nD) {β : Type} (k : PUnit → Prog (TpuEff nD τ sig (Elt F) (SparseCore.Sig (ΛP (F := F)) 1) .tc) β) {Φ : β → sProp 𝕄} :
    iprop(boundary (T d) ∗ StableHlo.held (T d) (Pipeline.ucRefs τ sig) (V0 m d))
      ⊢ iprop((iprop(boundary (T d) ∗ StableHlo.held (T d) (Pipeline.ucRefs τ sig) (V1 m d))
            -∗ wp frame (wpE ((K (F := F)).defs (D (F := F))) 𝒱 (T d) none) Set.univ (k ⟨⟩) Φ)
        -∗ wp frame (wpE ((K (F := F)).defs (D (F := F))) 𝒱 (T d) none) Set.univ (StableHlo.seq ops0 >>= k) Φ) :=
  StableHlo.wp_seq (defs := (K (F := F)).defs (D (F := F))) 𝒱 none Set.univ d (Pipeline.ucRefs τ sig) k ops0 ops0_sub ops0_fresh (V0 m d)

/-- and after them. -/
theorem suf_run (d : Dev nD) {Φ : PUnit → sProp 𝕄} :
    iprop(boundary (T d) ∗ StableHlo.held (T d) (Pipeline.ucRefs τ sig) (V3 m d))
      ⊢ iprop((iprop(boundary (T d) ∗ StableHlo.held (T d) (Pipeline.ucRefs τ sig) (V4 m d)) -∗ Φ ⟨⟩)
        -∗ wp frame (wpE ((K (F := F)).defs (D (F := F))) 𝒱 (T d) none) Set.univ (StableHlo.seq ops1) Φ) := by
  have h := StableHlo.wp_seq (defs := (K (F := F)).defs (D (F := F))) 𝒱 none Set.univ d (Pipeline.ucRefs τ sig) (fun x => Prog.ret x) ops1 ops1_sub ops1_fresh (V3 m d) (K := Φ)
  iintro H Hk
  iapply h $$ H
  iintro H
  rw [wp_ret]; imodintro
  iapply Hk; iexact H

/-- @main from the TensorCore's call on, and from the SparseCore's. -/
def tail1 : PUnit → Prog (TpuEff nD τ sig (Elt F) (SparseCore.Sig (ΛP (F := F)) 1) .tc) PUnit := fun _ =>
  (SparseCore.liftProg (Prog.lift (.customCall (Pipeline.entry 0) ())) : Prog (TpuEff nD τ sig (Elt F) (SparseCore.Sig (ΛP (F := F)) 1) .tc) PUnit)
    >>= fun _ => StableHlo.seq ops1
def tail0 (d : Dev nD) : PUnit → Prog (TpuEff nD τ sig (Elt F) (SparseCore.Sig (ΛP (F := F)) 1) .tc) PUnit := fun _ =>
  (K (F := F)).run d 0 >>= tail1

/-- What @main leaves on a TensorCore. -/
def Post (d : Dev nD) : sProp 𝕄 := iprop((K (F := F)).tcSt EH d 1 ∗ FIN m d ∗ (K (F := F)).tcEnd d)

theorem tail1_run (d : Dev nD) :
    iprop(boundary (T d) ∗ (StableHlo.held (T d) (Pipeline.ucRefs τ sig) (V2 m d) ∗ idle (F := F) d)
        ∗ levAts (K (F := F)).L (K (F := F)).lev ∗ Gh (F := F) d ∗ tcRest (F := F) d ∗ (K (F := F)).tcSems0 d)
      ⊢ wp frame (wpE ((K (F := F)).defs (D (F := F))) 𝒱 (T d) none) Set.univ (tail1 ⟨⟩) fun _ => Post m d := by
  unfold tail1
  iintro ⟨Hb, Hpre, HL, HG, Htc, Hts⟩
  iapply (Entails.of_eq (Sem.wp_bind _ _ _ _ _ _).symm)
  iapply (region_run m d)
  isplitr [Hb Hpre HL HG]
  · iintro ⟨Hb, Hub, Hidle⟩
    iapply (suf_run m d) $$ [Hb Hub]
    · isplitl [Hb] <;> iassumption
    iintro ⟨Hb, Hub⟩
    unfold Post SparseCore.Cfg.tcEnd
    isplitl [Hidle Htc]
    · iapply (Entails.of_eq (tcSt_one (F := F) d).symm)
      isplitl [Hidle] <;> iassumption
    isplitl [Hub]; · iexact Hub
    isplitl [Hb] <;> iassumption
  isplitl [Hb]; · iexact Hb
  isplitl [Hpre]; · iexact Hpre
  isplitl [HL] <;> iassumption

theorem tail0_run (κ : GSem nD τ sig → ℕ) (d : Dev nD) :
    iprop((K (F := F)).ctx EH (P (TT m) (PP m) (O0 m)) κ ∗ (K (F := F)).tcSt EH d 0 ∗ boundary (T d)
        ∗ StableHlo.held (T d) (Pipeline.ucRefs τ sig) (V1 m d) ∗ (K (F := F)).tcSems0 d ∗ Gh (F := F) d)
      ⊢ wp frame (wpE ((K (F := F)).defs (D (F := F))) 𝒱 (T d) none) Set.univ (tail0 d ⟨⟩) fun _ => Post m d := by
  unfold tail0
  iintro ⟨#Hctx, Hst, Hb, Hub, Hts, HG⟩
  ihave #HL := ((K (F := F)).ctx_levAts κ) $$ Hctx
  ihave Hub' := (Entails.of_eq (lend m d)) $$ Hub
  icases Hub' with ⟨Hsc, Hrest⟩
  iapply (Entails.of_eq (Sem.wp_bind _ _ _ _ _ _).symm)
  iapply ((K (F := F)).wp_run (D (F := F)) 𝒱 (EH := EH) (P := P (TT m) (PP m) (O0 m)) κ d 0)
  isplitr; · iexact Hctx
  isplitl [Hst]; · iexact Hst
  isplitl [Hsc]; · iexact Hsc
  iintro ⟨Hst, Hdn⟩
  ihave Hub := (Entails.of_eq (retake m d)) $$ [Hdn Hrest]
  · isplitl [Hdn] <;> iassumption
  ihave Hst' := (Entails.of_eq (show ((K (F := F)).tcSt EH d ((0 : Fin 1).val + 1) : sProp 𝕄) = iprop(idle (F := F) d ∗ tcRest (F := F) d) from tcSt_one (F := F) d)) $$ Hst
  icases Hst' with ⟨Hidle, Htc⟩
  iapply (tail1_run m d)
  isplitl [Hb]; · iexact Hb
  isplitl [Hub Hidle]
  · isplitl [Hub] <;> iassumption
  isplitr; · iexact HL
  isplitl [HG]; · iexact HG
  isplitl [Htc] <;> iassumption

set_option maxRecDepth 8192 in
theorem main_run (κ : GSem nD τ sig → ℕ) (d : Dev nD) :
    iprop((K (F := F)).ctx EH (P (TT m) (PP m) (O0 m)) κ ∗ (K (F := F)).tcSt EH d 0 ∗ boundary (T d)
        ∗ StableHlo.held (T d) (Pipeline.ucRefs τ sig) (V0 m d) ∗ (K (F := F)).tcSems0 d ∗ Gh (F := F) d)
      ⊢ wp frame (wpE ((K (F := F)).defs (D (F := F))) 𝒱 (T d) none) Set.univ (StableHlo.seq ops0 >>= tail0 d) fun _ => Post m d := by
  have h := pre_run m d (tail0 d) (Φ := fun _ => Post m d)
  iintro ⟨Hctx, Hst, Hb, Hub, Hts, HG⟩
  iapply h $$ [Hb Hub]
  · isplitl [Hb] <;> iassumption
  iintro ⟨Hb, Hub⟩
  iapply (tail0_run m κ d)
  isplitl [Hctx]; · iexact Hctx
  isplitl [Hst]; · iexact Hst
  isplitl [Hb]; · iexact Hb
  isplitl [Hub]; · iexact Hub
  isplitl [Hts] <;> iassumption

theorem held_launch (d : Dev nD) :
    (unscopedBufs (Ix := HIx 1) (Name := ℕ) (U := UU) (Lvl := ℕ) d (fun b => m ((SparseCore.T d).loc b)) : sProp 𝕄)
      = StableHlo.held (T d) (Pipeline.ucRefs τ sig) (V0 m d) :=
  (Pipeline.unscopedBufs_held (Ix := HIx 1) (Name := ℕ) (U := UU) (Lvl := ℕ) d (V0 m d))

theorem res_split (d : Dev nD) : ((K (F := F)).tcRes m ρ d : sProp 𝕄)
    ⊢ iprop(boundary (T d) ∗ StableHlo.held (T d) (Pipeline.ucRefs τ sig) (V0 m d) ∗ (K (F := F)).tcSems0 d) := by
  unfold SparseCore.Cfg.tcRes
  iintro ⟨Hb, Hub, Hts, -⟩
  isplitl [Hb]; · iexact Hb
  isplitl [Hub]
  · iapply (Entails.of_eq (held_launch m d)) $$ Hub
  iexact Hts

set_option maxRecDepth 8192 in
theorem hmain (κ : GSem nD τ sig → ℕ) (d : Dev nD) :
    iprop((K (F := F)).ctx EH (P (TT m) (PP m) (O0 m)) κ ∗ (K (F := F)).tcSt EH d 0 ∗ (K (F := F)).tcRes m ρ d ∗ Gh (F := F) d)
      ⊢ wp frame (wpE ((K (F := F)).defs (D (F := F))) 𝒱 (T d) none) Set.univ (main d)
          fun _ => iprop((K (F := F)).tcSt EH d 1 ∗ FIN m d ∗ (K (F := F)).tcEnd d) := by
  suffices e : iprop((K (F := F)).ctx EH (P (TT m) (PP m) (O0 m)) κ ∗ (K (F := F)).tcSt EH d 0 ∗ (K (F := F)).tcRes m ρ d ∗ Gh (F := F) d)
      ⊢ (iprop((K (F := F)).ctx EH (P (TT m) (PP m) (O0 m)) κ ∗ (K (F := F)).tcSt EH d 0 ∗ boundary (T d)
        ∗ StableHlo.held (T d) (Pipeline.ucRefs τ sig) (V0 m d) ∗ (K (F := F)).tcSems0 d ∗ Gh (F := F) d) : sProp 𝕄) by
    rw [main_eq]; exact BI.Entails.trans e (main_run m κ d)
  iintro ⟨Hctx, Hst, Hres, HG⟩
  ihave H := (res_split m ρ d) $$ Hres
  icases H with ⟨Hb, Hub, Hts⟩
  isplitl [Hctx]; · iexact Hctx
  isplitl [Hst]; · iexact Hst
  isplitl [Hb]; · iexact Hb
  isplitl [Hub]; · iexact Hub
  isplitl [Hts] <;> iassumption

/-! ## The run -/

def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  unfold FIN StableHlo.held
  iintro H
  ihave H := (pointsTo_read_all (Pipeline.ucRefs τ sig) (fun b => ((T d : Thread nD τ).1, b)) (V4 m d) s') $$ H
  icases H with ⟨%h, -⟩
  ipureintro; exact h

/-- How every execution ends. -/
def QC : PUnit × MemSt nD τ sig (Elt F) → Prop := fun r =>
  (∀ (d : Dev nD) (b : Ref sig .tc), b.isScoped = false → r.2.mem ((SparseCore.T d).loc b) = V4 m d (Proc.devRef .tc b)) ∧ r.2.sem = fun _ => 0

theorem run_main (hpre : ∀ d, InTable (PP m d)) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (TT m) (PP m) (O0 m)) (A := ∅) scFacts v₀
    (fun q hq => match q with | 0 => nomatch hq)
    (fun q _ => match q with | 0 => tileObl (TT m) (PP m) (O0 m) hpre)
    (fun q _ => match q with | 0 => SparseCore.Cfg.VecSplit.of_plain (vecSplit (TT m) (PP m) (O0 m)))
    m ρ main (fun d => Gh (F := F) d) (FIN m) (u₀ (F := F)) (sep_elim_left.trans (hu₀ m)) (hmain m ρ) (fq m) (hfin m) (QC m)
    (fun s' h hz => ⟨fun d b hb => h d _ (Pipeline.devRef_mem_ucRefs hb), hz⟩)

end Cert.Proof.Rope

end
-- ==== Proof.RefValue.lean ====
/-
  The reference read at an index: where every position is below 32768, element `(b, s, l)` of its two results is
  the cosine and the sine, at bf16 precision, of the angle at row `position[b, s]` and column `l mod 64`.
-/
module

public import proofs.«01_k».proof.Proof.Gen.Reference.Run
public import proofs.«01_k».proof.Proof.Gen.Reference.Read
public import Idealize.ShloMosaic.Lib.ReduceAll
public import Idealize.ShloMosaic.Lib.ValueIdx

@[expose] public section

noncomputable section

namespace Cert.Proof.RopeRef

open Cert.Reference Cert.Reference.Gen Cert.Reference.Read
open Idealize.ShloMosaic Idealize.ShloMosaic.ValueIdx

variable {F : FTy → Type} [BitOps F]

/-- The positions' fix-up for negative indices leaves a position below 32768 as it is. -/
theorem fixed {w y : BitVec 32} (hw : w.toNat < 32768) : Scalar.select (IntOp.cmpi .slt w 0#32) y w = w := by
  have h : IntOp.cmpi .slt w 0#32 ≠ 1#1 := fun e => by
    have := IntOp.cmpi_slt.1 e
    rw [BitVec.toInt_eq_toNat_of_lt (by omega)] at this
    simp at this
    omega
  unfold Scalar.select
  simp [h]

variable (x : (⟨S4x4096, .i32⟩ : BufTy).Contents (Elt F)) (hx : ∀ j, (x j).toNat < 32768)

include hx in
theorem start_eq (i : S4x4096x1.Idx) : val_main_call0_v5 (F := F) x i = x (idx_main_call0_v5 i) := by
  rw [val_main_call0_v5_apply, val_main_call0_v4_apply, val_main_call0_v1_apply, val_main_call0_v0_apply,
    val_main_call0_c_apply]
  exact fixed (hx _)

include hx in
/-- No position is masked. -/
theorem mask_eq (j : S4x4096.Idx) : val_main_call0_v12 (F := F) x j = 1#1 := by
  unfold val_main_call0_v12
  refine Host.reduce_andi_one _ _ _ _ _ rfl fun i => ?_
  rw [val_main_call0_v11_apply, val_main_call0_v7_apply, val_main_call0_v10_apply, start_eq x hx,
    val_main_call0_v6_apply, val_main_call0_c_2_apply, val_main_call0_v9_apply, val_main_call0_v8_apply,
    val_main_call0_c_1_apply]
  have h := hx (idx_main_call0_v5 i)
  have e : (x (idx_main_call0_v5 i)).toInt = (x (idx_main_call0_v5 i)).toNat := BitVec.toInt_eq_toNat_of_lt (by omega)
  refine IntOp.andi_eq_one.2 ⟨IntOp.cmpi_sge.2 ?_, IntOp.cmpi_sle.2 ?_⟩
  · rw [e]; simp
  · rw [e]; simp; omega

/-- A table's rows taken at `[4, 4096, 1]` start indices: element `(b, s, l)` is column `l` of the row named at
    `(b, s, 0)`, clamped to the table. -/
theorem take_row {α : Type} (t : S32768x128.Idx → α) (idx : IVec S4x4096x1 32) (i : S4x4096x128.Idx) :
    Host.gather gather_S32768x128_S4x4096x1_S4x4096x128_2_0_n_n_0_2_1128 t idx i
      = t (ix2 ⟨min (idx (ix3 (i 0) (i 1) (0 : Fin 1))).toInt.toNat 32767, by omega⟩ (i 2)) := by
  unfold Host.gather
  refine congrArg t (funext fun a => Fin.ext ?_)
  generalize hd : gather_S32768x128_S4x4096x1_S4x4096x128_2_0_n_n_0_2_1128 = d
  show d.start i idx a + d.batchCoord i a + d.offCoord i a = _
  have hob : a ∉ d.operandBatchingDims := by subst hd; exact List.not_mem_nil
  rw [d.batchCoord_eq_zero _ _ hob]
  match a with
  | ⟨0, _⟩ =>
    have hk : (0 : Fin 2) ∉ d.sKept := fun h => ((d.mem_sKept 0).1 h).1 (by subst hd; exact List.mem_singleton.2 rfl)
    have hm : (0 : Fin 2) ∈ d.startIndexMap := by subst hd; exact List.mem_singleton.2 rfl
    show d.start i idx 0 + 0 + d.offCoord i 0 = _
    rw [d.offCoord_eq_zero _ _ hk]
    unfold GatherDims.start
    rw [dif_pos hm]
    have hs : d.siIdx i ⟨d.startIndexMap.idxOf 0, List.idxOf_lt_length_iff.2 hm⟩ = ix3 (i 0) (i 1) (0 : Fin 1) := by
      subst hd
      funext b
      match b with
      | ⟨0, _⟩ => rfl
      | ⟨1, _⟩ => rfl
      | ⟨2, _⟩ => rfl
    rw [hs]
    subst hd
    rfl
  | ⟨1, _⟩ =>
    have hm : (1 : Fin 2) ∉ d.startIndexMap := by subst hd; decide
    show d.start i idx 1 + 0 + d.offCoord i 1 = (i 2).val
    unfold GatherDims.start
    rw [dif_neg hm]
    subst hd
    simp only [Nat.zero_add]
    rfl

/-- Column `l` of the doubled angles is column `l mod 64` of the angles. -/
theorem doubled (r : Fin 32768) (l : Fin 128) :
    val_main_v17 (F := F) (ix2 r l) = val_main_v16 (ix2 r (⟨l.val % 64, Nat.mod_lt _ (by decide)⟩ : Fin 64)) := by
  unfold val_main_v17
  generalize val_main_v16 (F := F) = y
  by_cases h : l.val < 64
  · refine concatenate_pair_apply_left (t := S32768x128) (s₁ := S32768x64) (s₂ := S32768x64) (1 : Fin 2) y y _ _ rfl _ fun b => ?_
    match b with
    | ⟨0, _⟩ => rfl
    | ⟨1, _⟩ => exact Nat.mod_eq_of_lt h
  · refine concatenate_pair_apply_right (t := S32768x128) (s₁ := S32768x64) (s₂ := S32768x64) (1 : Fin 2) y y _ _ rfl rfl _
      (fun b hb => ?_) ?_
    · match b with
      | ⟨0, _⟩ => rfl
      | ⟨1, _⟩ => exact absurd rfl hb
    · show l.val % 64 + 64 = l.val
      have := l.isLt
      omega

/-- The angle that element `i` of either result is the cosine or the sine of. -/
def angleAt (i : S4x4096x128.Idx) : F .f32 :=
  val_main_v16 (ix2 (⟨(x (ix2 (i 0) (i 1))).toNat % 32768, Nat.mod_lt _ (by decide)⟩ : Fin 32768)
    (⟨(i 2).val % 64, Nat.mod_lt _ (by decide)⟩ : Fin 64))

include hx in
theorem row_eq (i : S4x4096x128.Idx) :
    min (val_main_call0_v5 (F := F) x (ix3 (i 0) (i 1) (0 : Fin 1))).toInt.toNat 32767
      = (x (ix2 (i 0) (i 1))).toNat % 32768 := by
  rw [start_eq x hx]
  have e : idx_main_call0_v5 (ix3 (i 0) (i 1) (0 : Fin 1)) = ix2 (i 0) (i 1) := by
    funext a
    match a with
    | ⟨0, _⟩ => rfl
    | ⟨1, _⟩ => rfl
  rw [e]
  have key : ∀ w : BitVec 32, w.toNat < 32768 → min w.toInt.toNat 32767 = w.toNat % 32768 := fun w h => by
    rw [BitVec.toInt_eq_toNat_of_lt (by omega), Int.toNat_natCast]
    omega
  exact key _ (hx (ix2 (i 0) (i 1)))

include hx in
theorem cos_eq (i : S4x4096x128.Idx) : val_main_v22 (F := F) x i
    = FloatOps.ofBits .f32 (reducePrecision32 8 7 (BitOps.toBits (FloatOps.hostUnary .cos (angleAt x i)))) := by
  unfold val_main_v22 Host.reducePrecision
  rw [val_main_v20_apply, val_main_call0_v14_apply, mask_eq x hx]
  rw [show ∀ a b : F .f32, Scalar.select (1#1) a b = a from fun a b => rfl]
  unfold val_main_call0_v13
  rw [take_row, val_main_v18_apply]
  unfold angleAt
  rw [← doubled (F := F) _ (i 2)]
  exact congrArg (fun r : Fin 32768 => (FloatOps.ofBits .f32 (reducePrecision32 8 7
    (BitOps.toBits (FloatOps.hostUnary .cos (val_main_v17 (F := F) (ix2 r (i 2)))))) : F .f32)) (Fin.ext (row_eq x hx i))

include hx in
theorem sin_eq (i : S4x4096x128.Idx) : val_main_v23 (F := F) x i
    = FloatOps.ofBits .f32 (reducePrecision32 8 7 (BitOps.toBits (FloatOps.hostUnary .sin (angleAt x i)))) := by
  unfold val_main_v23 Host.reducePrecision
  rw [val_main_v21_apply, val_main_call1_v14_apply]
  rw [show val_main_call1_v12 (F := F) x = val_main_call0_v12 x from rfl, mask_eq x hx]
  rw [show ∀ a b : F .f32, Scalar.select (1#1) a b = a from fun a b => rfl]
  unfold val_main_call1_v13
  rw [show val_main_call1_v5 (F := F) x = val_main_call0_v5 x from rfl, take_row, val_main_v19_apply]
  unfold angleAt
  rw [← doubled (F := F) _ (i 2)]
  exact congrArg (fun r : Fin 32768 => (FloatOps.ofBits .f32 (reducePrecision32 8 7
    (BitOps.toBits (FloatOps.hostUnary .sin (val_main_v17 (F := F) (ix2 r (i 2)))))) : F .f32)) (Fin.ext (row_eq x hx i))

end Cert.Proof.RopeRef

end
-- ==== Proof.Final.lean ====
/-
  The contents @main ends with, read back to its arguments: the positions' rows, the packed table, the two results
  and the arguments.
-/
module

public import proofs.«01_k».proof.Proof.Run
public import proofs.«01_k».proof.Proof.RefValue

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## Before the call -/

section Before
variable (m : (ℓ : Loc nD τ sig) → Buf (Elt F) ℓ)

/-- The positions as launched. -/
def P0 (d : Dev nD) : S4x4096.Idx → BitVec 32 := m ((d.tc : Thread nD τ).loc main_arg1)

theorem PP_eq (d : Dev nD) : PP m d = shapeCast S32x512 (P0 m d) shapeCasts_S4x4096_S32x512 := by
  unfold PP V1 ops0
  after_results_simp
  rfl

theorem V1_arg0 (d : Dev nD) : V1 m d (Proc.devRef .tc main_arg0) = m ((d.tc : Thread nD τ).loc main_arg0) := by
  unfold V1 ops0
  after_results_simp
  rfl

theorem V1_arg1 (d : Dev nD) : V1 m d (Proc.devRef .tc main_arg1) = P0 m d := by
  unfold V1 ops0
  after_results_simp
  rfl

/-- The angles' sines and cosines at bf16 precision, packed in one word each. -/
def packed (A : FVec F S32768x64 .f32) : IVec S32768x64 32 :=
  ori (Host.shli (Host.shrui (bitcastToInt (Host.reducePrecision 8 7 (Host.sin A)))
      (broadcastInDim S32768x64 ![] bcast_S_S32768x64 (constantI S_ 32 16#32)))
      (broadcastInDim S32768x64 ![] bcast_S_S32768x64 (constantI S_ 32 16#32)))
    (Host.shrui (bitcastToInt (Host.reducePrecision 8 7 (Host.cos A)))
      (broadcastInDim S32768x64 ![] bcast_S_S32768x64 (constantI S_ 32 16#32)))

theorem TT_eq (d : Dev nD) : TT m d = extractStridedSlice S8192x128 ![0, 0]
    (shapeCast S16384x128 (packed (Cert.Reference.Read.val_main_v16 (F := F))) shapeCasts_S32768x64_S16384x128)
    slices_S16384x128_S8192x128_0_0 := by
  unfold TT V1 ops0
  after_results_simp
  rfl

end Before

/-! ## At the end -/

section End
variable (m : (ℓ : Loc nD τ sig) → Buf (Elt F) ℓ)

theorem V3_cos (d : Dev nD) : V3 m d (Proc.devRef .tc main_v35_0) = cosOf (F := F) (n := 8192) (gath (TT m d) (PP m d)) := by
  have h := Pipeline.afterRegion_arr (dats (V2 m) 0 d) (V2 m d) launch1.win.arr_inj 1
  rw [final_cos (V2 m) d, V2_o m d] at h
  exact h

theorem V3_sin (d : Dev nD) : V3 m d (Proc.devRef .tc main_v35_1) = sinOf (F := F) (n := 8192) (gath (TT m d) (PP m d)) := by
  have h := Pipeline.afterRegion_arr (dats (V2 m) 0 d) (V2 m d) launch1.win.arr_inj 2
  rw [final_sin (V2 m) d, V2_o m d] at h
  exact h

theorem V4_cos (d : Dev nD) : V4 m d (Proc.devRef .tc main_v36)
    = shapeCast S4x4096x128 (cosOf (F := F) (n := 8192) (gath (TT m d) (PP m d))) shapeCasts_S8192x2x128_S4x4096x128 := by
  rw [← V3_cos m d]
  unfold V4 ops1
  after_results_simp
  rfl

theorem V4_sin (d : Dev nD) : V4 m d (Proc.devRef .tc main_v37)
    = shapeCast S4x4096x128 (sinOf (F := F) (n := 8192) (gath (TT m d) (PP m d))) shapeCasts_S8192x2x128_S4x4096x128 := by
  rw [← V3_sin m d]
  unfold V4 ops1
  after_results_simp
  rfl

theorem arg_not_arr {b : Ref sig .tc} (h : b = main_arg0 ∨ b = main_arg1) : ∀ w, b ≠ Pipeline.arrRef spec1 w := by
  rcases h with rfl | rfl <;> decide

theorem V4_arg0 (d : Dev nD) : V4 m d (Proc.devRef .tc main_arg0) = m ((d.tc : Thread nD τ).loc main_arg0) := by
  refine Eq.trans ?_ (V1_arg0 m d)
  have h : V3 m d (Proc.devRef .tc main_arg0) = V2 m d (Proc.devRef .tc main_arg0) :=
    Pipeline.afterRegion_of_not_arr (dats (V2 m) 0 d) (V2 m d) (arg_not_arr (Or.inl rfl))
  have h2 : V2 m d (Proc.devRef .tc main_arg0) = V1 m d (Proc.devRef .tc main_arg0) :=
    Function.update_of_ne (by decide) _ _
  rw [← h2, ← h]
  unfold V4 ops1
  after_results_simp

theorem V4_arg1 (d : Dev nD) : V4 m d (Proc.devRef .tc main_arg1) = P0 m d := by
  refine Eq.trans ?_ (V1_arg1 m d)
  have h : V3 m d (Proc.devRef .tc main_arg1) = V2 m d (Proc.devRef .tc main_arg1) :=
    Pipeline.afterRegion_of_not_arr (dats (V2 m) 0 d) (V2 m d) (arg_not_arr (Or.inr rfl))
  have h2 : V2 m d (Proc.devRef .tc main_arg1) = V1 m d (Proc.devRef .tc main_arg1) :=
    Function.update_of_ne (by decide) _ _
  rw [← h2, ← h]
  unfold V4 ops1
  after_results_simp

end End
end Cert.Proof.Rope

end
-- ==== Proof.Pairs.lean ====
/-
  What the precondition says of the positions, element by element: each even-numbered position is an even number
  below 16384, and the position after it is the next number.
-/
module

public import proofs.«01_k».proof.Pre_pairs
public import Idealize.ShloMosaic.Lib.ReduceAll
public import Idealize.ShloMosaic.Lib.ValueIdx
public import Idealize.ShloMosaic.Lib.ValueLayout

@[expose] public section

noncomputable section

namespace Cert.Proof.Rope

open Cert.Pre_pairs Cert.Pre_pairs.Facts
open Idealize.ShloMosaic Idealize.ShloMosaic.ValueIdx

variable {F : FTy → Type} [FloatOps F] [Cert.Pre_pairs.Facts]

/-- The position that the pair of position `(b, s)` begins with. -/
def lead (p : (⟨2, ![4, 4096]⟩ : Shape).Idx → BitVec 32) (b : Fin 4) (s : Fin 4096) : BitVec 32 :=
  p (ix2 b (⟨2 * (s.val / 2), by have := s.isLt; omega⟩ : Fin 4096))

def Paired (p : (⟨2, ![4, 4096]⟩ : Shape).Idx → BitVec 32) : Prop := ∀ (b : Fin 4) (s : Fin 4096),
  (lead p b s).toNat < 16384 ∧ (lead p b s).toNat % 2 = 0 ∧ (p (ix2 b s)).toNat = (lead p b s).toNat + s.val % 2

/-- Column `c` of the positions cut in pairs, at pair `n`. -/
theorem col_apply (p : IVec S4x4096 32) (c : Nat) (hc : c < 2) (o : Fin S8192x2.rank → Nat) (h : S8192x2.Slices o S8192x1)
    (h0 : o 0 = 0) (h1 : o 1 = c) (n : Fin 8192) :
    shapeCast S8192 (extractStridedSlice S8192x1 o (shapeCast S8192x2 p shapeCasts_S4x4096_S8192x2) h)
        shapeCasts_S8192x1_S8192 (ix1 n)
      = p (ix2 (⟨n.val / 2048, by have := n.isLt; omega⟩ : Fin 4) (⟨2 * (n.val % 2048) + c, by omega⟩ : Fin 4096)) := by
  rw [shapeCast_apply _ _ (ix1 n) (ix2 n (0 : Fin 1)) (by
    rw [Shape.rowMajor_val_two, Shape.rowMajor_val_one]
    show n.val * 1 + 0 = n.val
    omega)]
  rw [extractStridedSlice_apply _ _ h (ix2 n (0 : Fin 1)) (ix2 n (⟨c, hc⟩ : Fin 2)) (fun a => by
    match a with
    | ⟨0, _⟩ => show n.val = o 0 + n.val; omega
    | ⟨1, _⟩ => show c = o 1 + 0; omega)]
  rw [shapeCast_apply _ _ (ix2 n (⟨c, hc⟩ : Fin 2)) (ix2 (⟨n.val / 2048, by have := n.isLt; omega⟩ : Fin 4) (⟨2 * (n.val % 2048) + c, by omega⟩ : Fin 4096)) (by
    rw [Shape.rowMajor_val_two, Shape.rowMajor_val_two]
    show n.val / 2048 * 4096 + (2 * (n.val % 2048) + c) = n.val * 2 + c
    omega)]

/-- The four comparisons of the precondition, read on a pair of words. -/
theorem word {u w a b : BitVec 32} (ha : u = a) (hb : w = b) (e1 : IntOp.cmpi .sge u 0#32 = 1#1)
    (e2 : IntOp.cmpi .slt u 16384#32 = 1#1) (e3 : IntOp.cmpi .eq (IntOp.andi u 1#32) 0#32 = 1#1)
    (e4 : IntOp.cmpi .eq w (IntOp.addi u 1#32) = 1#1) :
    a.toNat < 16384 ∧ a.toNat % 2 = 0 ∧ b.toNat = a.toNat + 1 := by
  subst ha hb
  have h1 := IntOp.cmpi_sge.1 e1
  have h2 := IntOp.cmpi_slt.1 e2
  have h3 := congrArg BitVec.toNat (IntOp.cmpi_eq.1 e3)
  have h4 := congrArg BitVec.toNat (IntOp.cmpi_eq.1 e4)
  have k0 : (0#32 : BitVec 32).toInt = 0 := by decide
  have k1 : (16384#32 : BitVec 32).toInt = 16384 := by decide
  rw [k0] at h1
  rw [k1] at h2
  rw [BitVec.toInt_eq_toNat_cond (x := u)] at h1 h2
  have h3' : u.toNat % 2 = 0 := by
    have : (u &&& 1#32).toNat = 0 := h3
    rw [BitVec.toNat_and] at this
    exact (Nat.and_one_is_mod _).symm.trans this
  have h4' : w.toNat = (u.toNat + 1) % 2 ^ 32 := by
    have : w.toNat = (u + 1#32).toNat := h4
    rwa [BitVec.toNat_add] at this
  have hu := u.isLt
  split at h1 <;> omega

theorem paired_of_pre (a : FVec F S4x4096x4096 .f32) (p : IVec S4x4096 32) (h : fn (F := F) a p = fun _ => 1#1) :
    Paired p := by
  have hs : Subsingleton S_.Idx := ⟨fun x y => funext fun a => a.elim0⟩
  intro b s
  have hn : b.val * 2048 + s.val / 2 < 8192 := by have := b.isLt; have := s.isLt; omega
  have e0 := congrFun h (fun a => a.elim0)
  have e := Host.reduce_andi_all _ _ _ _ _ e0 (ix1 (⟨b.val * 2048 + s.val / 2, hn⟩ : Fin 8192))
  clear e0
  obtain ⟨e, e4⟩ := IntOp.andi_eq_one.1 e
  obtain ⟨e, e3⟩ := IntOp.andi_eq_one.1 e
  obtain ⟨e1, e2⟩ := IntOp.andi_eq_one.1 e
  clear e
  have c0 := col_apply p 0 (by omega) ![0, 0] slices_S8192x2_S8192x1_0_0 rfl rfl ⟨b.val * 2048 + s.val / 2, hn⟩
  have c1 := col_apply p 1 (by omega) ![0, 1] slices_S8192x2_S8192x1_0_1 rfl rfl ⟨b.val * 2048 + s.val / 2, hn⟩
  have key := word c0 c1 e1 e2 e3 e4
  have hb := b.isLt
  have hs' := s.isLt
  have q : (b.val * 2048 + s.val / 2) / 2048 = b.val := by omega
  have r : (b.val * 2048 + s.val / 2) % 2048 = s.val / 2 := by omega
  simp only [q, r] at key
  obtain ⟨k1, k2, k3⟩ := key
  refine ⟨k1, k2, ?_⟩
  rcases Nat.mod_two_eq_zero_or_one s.val with o | o
  · have e : ix2 b s = ix2 b (⟨2 * (s.val / 2), by omega⟩ : Fin 4096) := congrArg (ix2 b) (Fin.ext (by show s.val = 2 * (s.val / 2); omega))
    rw [o, e]
    rfl
  · have e : ix2 b s = ix2 b (⟨2 * (s.val / 2) + 1, by omega⟩ : Fin 4096) := congrArg (ix2 b) (Fin.ext (by show s.val = 2 * (s.val / 2) + 1; omega))
    rw [o, e]
    exact k3

end Cert.Proof.Rope

end
-- ==== Proof.Words.lean ====
/-
  Words of two bf16 halves: what rounding to bf16's precision leaves in the low half, and the halves of a packed word.
-/
module

public import proofs.«01_k».proof.Proof.Final
public import proofs.«01_k».proof.Proof.Pairs

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- Clearing the low half of a word, bit by bit. -/
theorem cleared_bit (x : BitVec 32) (i : ℕ) (hi : i < 32) : (x >>> 16 <<< 16).getLsbD i = (decide (16 ≤ i) && x.getLsbD i) := by
  rw [BitVec.getLsbD_shiftLeft, BitVec.getLsbD_ushiftRight]
  by_cases h : i < 16
  · have : ¬ 16 ≤ i := by omega
    simp [h, this]
  · have h' : 16 ≤ i := by omega
    have e : 16 + (i - 16) = i := by omega
    simp [h, h', hi, e]

theorem mask_bit (i : ℕ) (hi : i < 32) : (4294901760#32 : BitVec 32).getLsbD i = decide (16 ≤ i) := by
  have key : ∀ k : Fin 32, (4294901760#32 : BitVec 32).getLsbD k.val = decide (16 ≤ k.val) := by decide
  exact key ⟨i, hi⟩

theorem masked (x : BitVec 32) : x &&& 4294901760#32 = x >>> 16 <<< 16 := by
  refine BitVec.eq_of_getLsbD_eq fun i hi => ?_
  rw [cleared_bit x i hi, BitVec.getLsbD_and, mask_bit i hi, Bool.and_comm]

/-- The low half of a word at bf16 precision is zero. -/
theorem rounded (x : BitVec 32) : reducePrecision32 8 7 x >>> 16 <<< 16 = reducePrecision32 8 7 x := by
  have hm : ∀ y : BitVec 32, (y &&& 4294901760#32) >>> 16 <<< 16 = y &&& 4294901760#32 := fun y => by
    rw [← masked, BitVec.and_assoc, BitVec.and_self]
  have hs : ∀ y : BitVec 32, (y &&& 2147483648#32) >>> 16 <<< 16 = y &&& 2147483648#32 := fun y => by
    rw [← masked, BitVec.and_assoc]
    rfl
  have e : reducePrecision32 8 7 x = 2143289344#32 ∨ (∃ y, reducePrecision32 8 7 x = y &&& 2147483648#32)
      ∨ ∃ y, reducePrecision32 8 7 x = y &&& 4294901760#32 := by
    unfold reducePrecision32
    extract_lets p q r
    by_cases hp : (p && !(decide (8 ≤ 8) && decide (23 ≤ 7))) = true
    · rw [if_pos hp]
      exact Or.inl (if_pos (by decide))
    · rw [if_neg hp]
      by_cases hq : (q && decide (8 ≤ 8) && decide (7 < 23)) = true
      · rw [if_pos hq]
        exact Or.inr (Or.inl ⟨x, if_pos (by decide)⟩)
      · rw [if_neg hq, if_pos (by decide)]
        have hmask : ~~~(BitVec.ofNat 32 (2 ^ (23 - 7) - 1)) = 4294901760#32 := by decide
        refine Or.inr (Or.inr ⟨x + (BitVec.ofNat 32 (2 ^ (23 - 7 - 1) - 1) + ((x >>> (23 - 7)) &&& 1#32)), ?_⟩)
        rw [← hmask]
        exact if_neg (show ¬ (7 ≥ 23) by decide)
  rcases e with e | ⟨y, e⟩ | ⟨y, e⟩
  · rw [e]
    decide
  · rw [e]
    exact hs y
  · rw [e]
    exact hm y

/-- The low half of a packed word, moved up, is the second word's high half, -/
theorem low_half (s c : BitVec 32) : ((s >>> 16 <<< 16) ||| (c >>> 16)) <<< 16 = c >>> 16 <<< 16 := by
  refine BitVec.eq_of_getLsbD_eq fun i hi => ?_
  rw [BitVec.getLsbD_shiftLeft, BitVec.getLsbD_or, BitVec.getLsbD_shiftLeft (x := c >>> 16)]
  by_cases h : i < 16
  · simp [h]
  · rw [cleared_bit s _ (by omega)]
    have : ¬ 16 ≤ i - 16 := by omega
    simp [this]

/-- and its high half is the first word's. -/
theorem high_half (s c : BitVec 32) : ((s >>> 16 <<< 16) ||| (c >>> 16)) &&& 4294901760#32 = s >>> 16 <<< 16 := by
  rw [masked]
  refine BitVec.eq_of_getLsbD_eq fun i hi => ?_
  rw [cleared_bit _ i hi, BitVec.getLsbD_or, cleared_bit s i hi, BitVec.getLsbD_ushiftRight]
  by_cases h : 16 ≤ i
  · have : c.getLsbD (16 + i) = false := BitVec.getLsbD_of_ge _ _ (by omega)
    simp [h, this]
  · simp [h]
end Cert.Proof.Rope

end
-- ==== Proof.Equal.lean ====
/-
  The kernel's results are the reference's: element `(b, s, l)` of either unpacks the word of the table at row
  `position[b, s]` of the angles and column `l mod 64`.
-/
module

public import proofs.«01_k».proof.Proof.Words

@[expose] public section

noncomputable section

namespace Cert.Proof.Rope

open Cert.Kernel Cert.Kernel.Gen

open Idealize.ShloMosaic
open Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-! ## The positions -/

/-- Element `(r, c)` of the positions cut in rows of 512. -/
theorem rows_apply (p : S4x4096.Idx → BitVec 32) (r : Fin 32) (c : Fin 512) :
    shapeCast S32x512 p shapeCasts_S4x4096_S32x512 (ix2 r c)
      = p (ix2 (⟨r.val / 8, by have := r.isLt; omega⟩ : Fin 4) (⟨512 * (r.val % 8) + c.val, by have := c.isLt; omega⟩ : Fin 4096)) := by
  refine shapeCast_apply _ _ _ _ ?_
  rw [Shape.rowMajor_val_two, Shape.rowMajor_val_two]
  show r.val / 8 * 4096 + (512 * (r.val % 8) + c.val) = r.val * 512 + c.val
  omega

theorem paired_in (p : S4x4096.Idx → BitVec 32) (h : Paired p) : InTable (shapeCast S32x512 p shapeCasts_S4x4096_S32x512) := by
  intro j hj
  obtain ⟨r, c, rfl⟩ : ∃ (r : Fin 32) (c : Fin 512), j = ix2 r c := ⟨j 0, j 1, eq_ix2 j⟩
  have hc : c.val % 2 = 0 := hj
  rw [rows_apply]
  have k := h (⟨r.val / 8, by have := r.isLt; omega⟩ : Fin 4) (⟨512 * (r.val % 8) + c.val, by have := c.isLt; omega⟩ : Fin 4096)
  have k1 := k.1
  have k3 := k.2.2
  have e : (512 * (r.val % 8) + c.val) % 2 = 0 := by omega
  simp only [e] at k3
  omega

theorem paired_lt (p : S4x4096.Idx → BitVec 32) (h : Paired p) (j : S4x4096.Idx) : (p j).toNat < 32768 := by
  obtain ⟨b, s, rfl⟩ : ∃ (b : Fin 4) (s : Fin 4096), j = ix2 b s := ⟨j 0, j 1, eq_ix2 j⟩
  obtain ⟨k1, k2, k3⟩ := h b s
  omega

/-- The pair that position `(b, s)` lies in. -/
def pairOf (b : Fin 4) (s : Fin 4096) : Fin 8192 := ⟨2048 * b.val + s.val / 2, by have := b.isLt; have := s.isLt; omega⟩

theorem posOf_eq (p : S4x4096.Idx → BitVec 32) (b : Fin 4) (s : Fin 4096) :
    posOf (shapeCast S32x512 p shapeCasts_S4x4096_S32x512) (pairOf b s) = lead p b s := by
  have hb := b.isLt
  have hs := s.isLt
  unfold posOf lead
  rw [rows_apply]
  refine congrArg p (congrArg₂ ix2 (Fin.ext ?_) (Fin.ext ?_))
  · show (2048 * b.val + s.val / 2) / 256 / 8 = b.val
    omega
  · show 512 * ((2048 * b.val + s.val / 2) / 256 % 8) + 2 * ((2048 * b.val + s.val / 2) % 256) = 2 * (s.val / 2)
    omega

/-! ## The table -/

/-- Half `j` of the table's row `r` is row `2 r + j` of the packed words. -/
theorem table_apply {α : Type} (q : S32768x64.Idx → α) (r : Fin 8192) (j : Fin 2) (l : Fin 128) :
    extractStridedSlice S8192x128 ![0, 0] (shapeCast S16384x128 q shapeCasts_S32768x64_S16384x128)
        slices_S16384x128_S8192x128_0_0 (ix2 r (laneAt j l))
      = q (ix2 (⟨2 * r.val + j.val, by have := r.isLt; have := j.isLt; omega⟩ : Fin 32768) (⟨l.val % 64, Nat.mod_lt _ (by decide)⟩ : Fin 64)) := by
  rw [extractStridedSlice_apply _ _ _ _ (ix2 (⟨r.val, by have := r.isLt; omega⟩ : Fin 16384) (laneAt j l)) (fun a => by
    match a with
    | ⟨0, _⟩ => exact (Nat.zero_add _).symm
    | ⟨1, _⟩ => exact (Nat.zero_add _).symm)]
  refine shapeCast_apply _ _ _ _ ?_
  rw [Shape.rowMajor_val_two, Shape.rowMajor_val_two]
  show (2 * r.val + j.val) * 64 + l.val % 64 = r.val * 128 + (64 * j.val + l.val % 64)
  omega

/-- An angle's cosine and sine at bf16 precision, as words. -/
def cw (a : Bits .f32) : BitVec 32 := reducePrecision32 8 7 (BitOps.toBits (FloatOps.hostUnary .cos a))
def sw (a : Bits .f32) : BitVec 32 := reducePrecision32 8 7 (BitOps.toBits (FloatOps.hostUnary .sin a))

theorem packed_apply (A : FVec Bits S32768x64 .f32) (i : S32768x64.Idx) :
    packed (F := Bits) A i = ((sw (A i) >>> 16 <<< 16) ||| (cw (A i) >>> 16)) := by
  show IntOp.ori (IntOp.shli .host (IntOp.shrui .host (sw (A i)) 16#32) 16#32) (IntOp.shrui .host (cw (A i)) 16#32) = _
  unfold IntOp.shli IntOp.shrui
  rw [if_pos (by decide), if_pos (by decide), if_pos (by decide)]
  rfl

/-! ## The results -/

section Results
variable (m : (ℓ : Loc nD τ sig) → Buf (Elt Bits) ℓ) (d : Dev nD) (hp : Paired (P0 m d))

include hp in
/-- The word that element `(b, s, l)` of either result unpacks. -/
theorem gath_apply (b : Fin 4) (s : Fin 4096) (l : Fin 128) :
    gath (TT m d) (PP m d) (ix2 (pairOf b s) (laneAt (⟨s.val % 2, Nat.mod_lt _ (by decide)⟩ : Fin 2) l))
      = packed (F := Bits) (Cert.Reference.Read.val_main_v16 (F := Bits))
          (ix2 (⟨(P0 m d (ix2 b s)).toNat % 32768, Nat.mod_lt _ (by decide)⟩ : Fin 32768) (⟨l.val % 64, Nat.mod_lt _ (by decide)⟩ : Fin 64)) := by
  obtain ⟨k1, k2, k3⟩ := hp b s
  have hrow : (posOf (PP m d) (pairOf b s) >>> 1).toNat % 8192 = (lead (P0 m d) b s).toNat / 2 := by
    rw [PP_eq, posOf_eq, BitVec.toNat_ushiftRight, Nat.shiftRight_eq_div_pow]
    omega
  show TT m d (ix2 ⟨(posOf (PP m d) (pairOf b s) >>> 1).toNat % 8192, _⟩ (laneAt (⟨s.val % 2, _⟩ : Fin 2) l)) = _
  rw [TT_eq, table_apply]
  refine congrArg _ (congrArg (fun r => ix2 r (⟨l.val % 64, Nat.mod_lt _ (by decide)⟩ : Fin 64)) (Fin.ext ?_))
  show 2 * ((posOf (PP m d) (pairOf b s) >>> 1).toNat % 8192) + s.val % 2 = (P0 m d (ix2 b s)).toNat % 32768
  rw [hrow, k3]
  omega

/-- Element `(b, s, l)` of a result comes of row `s mod 2` of its pair. -/
theorem result_apply {α : Type} (v : S8192x2x128.Idx → α) (b : Fin 4) (s : Fin 4096) (l : Fin 128) :
    shapeCast S4x4096x128 v shapeCasts_S8192x2x128_S4x4096x128 (ix3 b s l)
      = v (ix3 (pairOf b s) (⟨s.val % 2, Nat.mod_lt _ (by decide)⟩ : Fin 2) l) := by
  refine shapeCast_apply _ _ _ _ ?_
  rw [Shape.rowMajor_val_three, Shape.rowMajor_val_three]
  show ((2048 * b.val + s.val / 2) * 2 + s.val % 2) * 128 + l.val = (b.val * 4096 + s.val) * 128 + l.val
  omega

include hp in
theorem result_cos : V4 m d (Proc.devRef .tc main_v36) = Cert.Reference.Read.val_main_v22 (F := Bits) (P0 m d) := by
  rw [V4_cos]
  funext i
  obtain ⟨b, s, l, rfl⟩ : ∃ (b : Fin 4) (s : Fin 4096) (l : Fin 128), i = ix3 b s l := ⟨i 0, i 1, i 2, eq_ix3 i⟩
  rw [result_apply, RopeRef.cos_eq (F := Bits) (P0 m d) (paired_lt _ hp)]
  show gath (TT m d) (PP m d) (ix2 (pairOf b s) (laneAt (⟨s.val % 2, _⟩ : Fin 2) l)) <<< 16 = cw (RopeRef.angleAt (F := Bits) (P0 m d) (ix3 b s l))
  rw [gath_apply m d hp, packed_apply, low_half]
  exact rounded _

include hp in
theorem result_sin : V4 m d (Proc.devRef .tc main_v37) = Cert.Reference.Read.val_main_v23 (F := Bits) (P0 m d) := by
  rw [V4_sin]
  funext i
  obtain ⟨b, s, l, rfl⟩ : ∃ (b : Fin 4) (s : Fin 4096) (l : Fin 128), i = ix3 b s l := ⟨i 0, i 1, i 2, eq_ix3 i⟩
  rw [result_apply, RopeRef.sin_eq (F := Bits) (P0 m d) (paired_lt _ hp)]
  show gath (TT m d) (PP m d) (ix2 (pairOf b s) (laneAt (⟨s.val % 2, _⟩ : Fin 2) l)) &&& 4294901760#32 = sw (RopeRef.angleAt (F := Bits) (P0 m d) (ix3 b s l))
  rw [gath_apply m d hp, packed_apply, high_half]
  exact rounded _

end Results
end Cert.Proof.Rope

end
-- ==== Proof.lean ====
/-
  The certificate of the rotary-embedding tables' kernel: its frame, the reference's frame, and the bit-exact equality
  of the two programs' results where the positions come in pairs.

  The kernel's run with its values is `Rope.run_main` (Proof/Run.lean), its results read back to the arguments are
  `Rope.result_cos` and `Rope.result_sin` (Proof/Equal.lean), what the precondition says element by element is
  `Rope.paired_of_pre` (Proof/Pairs.lean). The reference is a straight line of host operations on a signature without
  semaphores.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Reference
public import proofs.«01_k».proof.Proof.Gen.Reference.Run
public import proofs.«01_k».proof.Proof.Gen.Reference.Read
public import proofs.«01_k».proof.Proof.Gen.Pre_pairs
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Kernel

/-- On every device the positions the kernel is launched with come in pairs. -/
theorem paired (m : (ℓ : Loc Cert.Kernel.nD Cert.Kernel.τ Cert.Kernel.sig) → Buf (Elt Bits) ℓ) (h : Cert.Pre_Kernel m)
    (d : Dev Cert.Kernel.nD) : Rope.Paired (Rope.P0 m d) :=
  Rope.paired_of_pre (F := Bits) _ _ (h d)

/-- The kernel's run: the results, the arguments and the semaphores at the end. -/
theorem kernel_run (m : (ℓ : Loc Cert.Kernel.nD Cert.Kernel.τ Cert.Kernel.sig) → Buf (Elt Bits) ℓ)
    (g : Dev Cert.Kernel.nD → PrngReg) (h : Cert.Pre_Kernel m) :
    θ_run (Cert.Kernel.defs (F := Bits)) (Cert.Kernel.threads (F := Bits)) ⟨m, fun _ => 0, g⟩ (Rope.QC m) :=
  Rope.run_main (F := Bits) m g fun d => by
    rw [Rope.PP_eq]
    exact Rope.paired_in _ (paired m h d)

theorem frame_kernel : Cert.quiescent_Kernel := by
  intro m g h
  refine (θ_run Cert.Kernel.defs _ _).mono (fun r q => ⟨fun c => ⟨?_, ?_⟩, q.2⟩) (kernel_run m g h)
  · exact (q.1 c main_arg0 rfl).trans (Rope.V4_arg0 m c)
  · exact (q.1 c main_arg1 rfl).trans (Rope.V4_arg1 m c)

theorem frame_reference : Cert.quiescent_Reference := by
  intro m g _
  exact (θ_run Cert.Reference.defs _ _).mono
    (fun r q => ⟨fun c => ⟨(q c).2.2.1, (q c).2.2.2⟩, sem_eq_zero_of_no_sems (by decide) r.2⟩)
    (Cert.Reference.Value.run (F := Bits) m g)

theorem bitexact : Cert.bitexact_Kernel_Reference := by
  intro m g m' g' h hagree
  refine ⟨fun c => Rope.V4 m c (Proc.devRef .tc main_v36), fun c => Rope.V4 m c (Proc.devRef .tc main_v37), ?_, ?_⟩
  · refine (θ_run Cert.Kernel.defs _ _).mono (fun r q c => ⟨?_, ?_, ?_, ?_⟩) (kernel_run m g h)
    · exact q.1 c main_v36 rfl
    · exact q.1 c main_v37 rfl
    · exact (q.1 c main_arg0 rfl).trans (Rope.V4_arg0 m c)
    · exact (q.1 c main_arg1 rfl).trans (Rope.V4_arg1 m c)
  · refine (θ_run Cert.Reference.defs _ _).mono (fun r q c => ⟨?_, ?_, (q c).2.2.1, (q c).2.2.2⟩)
      (Cert.Reference.Value.run (F := Bits) m' g')
    · refine ((q c).1.trans (Cert.Reference.Read.val_main_v22_eq _)).trans ?_
      rw [(hagree c).2]
      exact (Rope.result_cos m c (paired m h c)).symm
    · refine ((q c).2.1.trans (Cert.Reference.Read.val_main_v23_eq _)).trans ?_
      rw [(hagree c).2]
      exact (Rope.result_sin m c (paired m h c)).symm

theorem claim : Cert.Claim := ⟨Cert.Kernel.Gen.facts, Cert.Reference.Gen.facts, Cert.Pre_pairs.Gen.facts,
  frame_kernel, frame_reference, fun m g _ => frame_reference m g trivial, bitexact⟩

end Cert.Proof

end
